-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_anchors_sorted_and_apart [hPre_anchors_sorted_and_apart : Cert.Pre_anchors_sorted_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_anchors_sorted_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_anchors_sorted_and_apart [hPre_anchors_sorted_and_apart : Cert.Pre_anchors_sorted_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_anchors_sorted_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_anchors_sorted_and_apart [hKernelIdeal : Cert.KernelIdeal.Facts] [hPre_anchors_sorted_and_apart : Cert.Pre_anchors_sorted_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_anchors_sorted_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_anchors_sorted_and_apart [hReferenceIdeal : Cert.ReferenceIdeal.Facts] [hPre_anchors_sorted_and_apart : Cert.Pre_anchors_sorted_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_anchors_sorted_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_anchors_sorted_and_apart [hKernelIdeal : Cert.KernelIdeal.Facts] [hReferenceIdeal : Cert.ReferenceIdeal.Facts] [hPre_anchors_sorted_and_apart : Cert.Pre_anchors_sorted_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_anchors_sorted_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_anchors_sorted_and_apart : Cert.Pre_anchors_sorted_and_apart.Facts),
    quiescent_Kernel (hKernel := hKernel)
    ∧ quiescent_KernelIdeal (hKernelIdeal := hKernelIdeal)
    ∧ quiescent_KernelIdeal_pre_anchors_sorted_and_apart (hKernelIdeal := hKernelIdeal) (hPre_anchors_sorted_and_apart := hPre_anchors_sorted_and_apart)
    ∧ quiescent_ReferenceIdeal (hReferenceIdeal := hReferenceIdeal)
    ∧ quiescent_ReferenceIdeal_pre_anchors_sorted_and_apart (hReferenceIdeal := hReferenceIdeal) (hPre_anchors_sorted_and_apart := hPre_anchors_sorted_and_apart)
    ∧ preserves_Kernel_KernelIdeal
    ∧ algebraic_KernelIdeal_ReferenceIdeal_pre_anchors_sorted_and_apart (hKernelIdeal := hKernelIdeal) (hReferenceIdeal := hReferenceIdeal) (hPre_anchors_sorted_and_apart := hPre_anchors_sorted_and_apart)
-- ==== Pre_anchors_sorted_and_apart.lean ====
abbrev S4x3x512x512 : Shape := ⟨4, ![4, 3, 512, 512]⟩
abbrev S512x512x3x3 : Shape := ⟨4, ![512, 512, 3, 3]⟩
abbrev S3x512x512x16 : Shape := ⟨4, ![3, 512, 512, 16]⟩
abbrev S_ : Shape := ⟨0, ![]⟩
abbrev S3x512x512x15 : Shape := ⟨4, ![3, 512, 512, 15]⟩
abbrev S4x3x512x512x1 : Shape := ⟨5, ![4, 3, 512, 512, 1]⟩
abbrev S3x512x512x14 : Shape := ⟨4, ![3, 512, 512, 14]⟩
abbrev S1x3x512x512x14 : Shape := ⟨5, ![1, 3, 512, 512, 14]⟩
abbrev S4x3x512x512x14 : Shape := ⟨5, ![4, 3, 512, 512, 14]⟩

class Facts : Prop where
  bcast_S_S3x512x512x16 : S_.BroadcastsInDim S3x512x512x16 (![] : Fin 0 → Fin S3x512x512x16.rank)
  slices_S3x512x512x16_S3x512x512x15_0_0_0_0 : S3x512x512x16.Slices ![0, 0, 0, 0] S3x512x512x15
  slices_S3x512x512x16_S3x512x512x15_0_0_0_1 : S3x512x512x16.Slices ![0, 0, 0, 1] S3x512x512x15
  bcast_S4x3x512x512_S4x3x512x512x1_0_1_2_3 : S4x3x512x512.BroadcastsInDim S4x3x512x512x1 (![0, 1, 2, 3] : Fin 4 → Fin S4x3x512x512x1.rank)
  slices_S3x512x512x16_S3x512x512x14_0_0_0_1 : S3x512x512x16.Slices ![0, 0, 0, 1] S3x512x512x14
  bcast_S3x512x512x14_S1x3x512x512x14_1_2_3_4 : S3x512x512x14.BroadcastsInDim S1x3x512x512x14 (![1, 2, 3, 4] : Fin 4 → Fin S1x3x512x512x14.rank)
  bcast_S4x3x512x512x1_S4x3x512x512x14_0_1_2_3_4 : S4x3x512x512x1.BroadcastsInDim S4x3x512x512x14 (![0, 1, 2, 3, 4] : Fin 5 → Fin S4x3x512x512x14.rank)
  bcast_S1x3x512x512x14_S4x3x512x512x14_0_1_2_3_4 : S1x3x512x512x14.BroadcastsInDim S4x3x512x512x14 (![0, 1, 2, 3, 4] : Fin 5 → Fin S4x3x512x512x14.rank)
  bcast_S_S1x3x512x512x14 : S_.BroadcastsInDim S1x3x512x512x14 (![] : Fin 0 → Fin S1x3x512x512x14.rank)
  reducesTo_S3x512x512x16_S_d0_1_2_3 : S3x512x512x16.ReducesTo [0, 1, 2, 3] S_
  h_S_ : 0 < S_.numel
  reducesTo_S3x512x512x15_S_d0_1_2_3 : S3x512x512x15.ReducesTo [0, 1, 2, 3] S_
  reducesTo_S4x3x512x512x14_S_d0_1_2_3_4 : S4x3x512x512x14.ReducesTo [0, 1, 2, 3, 4] S_

variable [Facts]

def fn_part1 {F : FTy → Type} [FloatOps F] (main_v6 : IVec S3x512x512x16 1) (main_v9 : IVec S3x512x512x15 1) (main_v15 : IVec S4x3x512x512x14 1) (main_v20 : IVec S4x3x512x512x14 1) : IVec S_ 1 :=
  let main_v21 : IVec S4x3x512x512x14 1 := ori main_v15 main_v20
  let main_c : IVec S_ 1 := constantI S_ 1 1#1
  let main_v22 : IVec S_ 1 := (fun x v => Host.reduce IntOp.andi x v reducesTo_S3x512x512x16_S_d0_1_2_3 h_S_) main_v6 main_c
  let main_c_2 : IVec S_ 1 := constantI S_ 1 1#1
  let main_v23 : IVec S_ 1 := (fun x v => Host.reduce IntOp.andi x v reducesTo_S3x512x512x15_S_d0_1_2_3 h_S_) main_v9 main_c_2
  let main_v24 : IVec S_ 1 := andi main_v22 main_v23
  let main_c_3 : IVec S_ 1 := constantI S_ 1 1#1
  let main_v25 : IVec S_ 1 := (fun x v => Host.reduce IntOp.andi x v reducesTo_S4x3x512x512x14_S_d0_1_2_3_4 h_S_) main_v21 main_c_3
  let main_v26 : IVec S_ 1 := andi main_v24 main_v25
  main_v26

def fn {F : FTy → Type} [FloatOps F] (main_arg0 : FVec F S4x3x512x512 .f32) (main_arg1 : FVec F S512x512x3x3 .f32) (main_arg2 : FVec F S3x512x512x16 .f32) (main_arg3 : FVec F S3x512x512x16 .f32) : IVec S_ 1 :=
  let main_v0 : FVec F S3x512x512x16 .f32 := Host.absf main_arg2
  let main_cst : FVec F S_ .f32 := constant S_ .f32 0x7F800000#32
  let main_v1 : FVec F S3x512x512x16 .f32 := broadcastInDim S3x512x512x16 ![] bcast_S_S3x512x512x16 main_cst
  let main_v2 : IVec S3x512x512x16 1 := cmpf .olt main_v0 main_v1
  let main_v3 : FVec F S3x512x512x16 .f32 := Host.absf main_arg3
  let main_cst_0 : FVec F S_ .f32 := constant S_ .f32 0x7F800000#32
  let main_v4 : FVec F S3x512x512x16 .f32 := broadcastInDim S3x512x512x16 ![] bcast_S_S3x512x512x16 main_cst_0
  let main_v5 : IVec S3x512x512x16 1 := cmpf .olt main_v3 main_v4
  let main_v6 : IVec S3x512x512x16 1 := andi main_v2 main_v5
  let main_v7 : FVec F S3x512x512x15 .f32 := (extractStridedSlice S3x512x512x15 ![0, 0, 0, 0] · slices_S3x512x512x16_S3x512x512x15_0_0_0_0) main_arg2
  let main_v8 : FVec F S3x512x512x15 .f32 := (extractStridedSlice S3x512x512x15 ![0, 0, 0, 1] · slices_S3x512x512x16_S3x512x512x15_0_0_0_1) main_arg2
  let main_v9 : IVec S3x512x512x15 1 := cmpf .ole main_v7 main_v8
  let main_v10 : FVec F S4x3x512x512x1 .f32 := broadcastInDim S4x3x512x512x1 ![0, 1, 2, 3] bcast_S4x3x512x512_S4x3x512x512x1_0_1_2_3 main_arg0
  let main_v11 : FVec F S3x512x512x14 .f32 := (extractStridedSlice S3x512x512x14 ![0, 0, 0, 1] · slices_S3x512x512x16_S3x512x512x14_0_0_0_1) main_arg2
  let main_v12 : FVec F S1x3x512x512x14 .f32 := broadcastInDim S1x3x512x512x14 ![1, 2, 3, 4] bcast_S3x512x512x14_S1x3x512x512x14_1_2_3_4 main_v11
  let main_v13 : FVec F S4x3x512x512x14 .f32 := broadcastInDim S4x3x512x512x14 ![0, 1, 2, 3, 4] bcast_S4x3x512x512x1_S4x3x512x512x14_0_1_2_3_4 main_v10
  let main_v14 : FVec F S4x3x512x512x14 .f32 := broadcastInDim S4x3x512x512x14 ![0, 1, 2, 3, 4] bcast_S1x3x512x512x14_S4x3x512x512x14_0_1_2_3_4 main_v12
  let main_v15 : IVec S4x3x512x512x14 1 := cmpf .ole main_v13 main_v14
  let main_cst_1 : FVec F S_ .f32 := constant S_ .f32 0x322BCC77#32
  let main_v16 : FVec F S1x3x512x512x14 .f32 := broadcastInDim S1x3x512x512x14 ![] bcast_S_S1x3x512x512x14 main_cst_1
  let main_v17 : FVec F S1x3x512x512x14 .f32 := addf main_v12 main_v16
  let main_v18 : FVec F S4x3x512x512x14 .f32 := broadcastInDim S4x3x512x512x14 ![0, 1, 2, 3, 4] bcast_S4x3x512x512x1_S4x3x512x512x14_0_1_2_3_4 main_v10
  let main_v19 : FVec F S4x3x512x512x14 .f32 := broadcastInDim S4x3x512x512x14 ![0, 1, 2, 3, 4] bcast_S1x3x512x512x14_S4x3x512x512x14_0_1_2_3_4 main_v17
  let main_v20 : IVec S4x3x512x512x14 1 := cmpf .oge main_v18 main_v19
  fn_part1 (F := F) main_v6 main_v9 main_v15 main_v20
-- ==== Kernel.lean ====
abbrev S4x3x512x512 : Shape := ⟨4, ![4, 3, 512, 512]⟩
abbrev S512x512x3x3 : Shape := ⟨4, ![512, 512, 3, 3]⟩
abbrev S3x512x512x16 : Shape := ⟨4, ![3, 512, 512, 16]⟩
abbrev S3x262144x16 : Shape := ⟨3, ![3, 262144, 16]⟩
abbrev S3x16x262144 : Shape := ⟨3, ![3, 16, 262144]⟩
abbrev S262144x3x3 : Shape := ⟨3, ![262144, 3, 3]⟩
abbrev S3x3x262144 : Shape := ⟨3, ![3, 3, 262144]⟩
abbrev S4x3x262144 : Shape := ⟨3, ![4, 3, 262144]⟩
abbrev S3x16x32768 : Shape := ⟨3, ![3, 16, 32768]⟩
abbrev S4x3x32768 : Shape := ⟨3, ![4, 3, 32768]⟩
abbrev S3x3x32768 : Shape := ⟨3, ![3, 3, 32768]⟩
abbrev S1x1x32768 : Shape := ⟨3, ![1, 1, 32768]⟩
abbrev S32768 : Shape := ⟨1, ![32768]⟩

abbrev nBuf : Space → Nat
  | .hbm => 13
  | .vmem => 10
  | .smem => 0
  | _ => 0

abbrev bufTy : (tb : Table) → Fin (tcTables nBuf tb) → BufTy
  | .hbm, ⟨0, _⟩ => ⟨S4x3x512x512, .f32⟩
  | .hbm, ⟨1, _⟩ => ⟨S512x512x3x3, .f32⟩
  | .hbm, ⟨2, _⟩ => ⟨S3x512x512x16, .f32⟩
  | .hbm, ⟨3, _⟩ => ⟨S3x512x512x16, .f32⟩
  | .hbm, ⟨4, _⟩ => ⟨S3x262144x16, .f32⟩
  | .hbm, ⟨5, _⟩ => ⟨S3x16x262144, .f32⟩
  | .hbm, ⟨6, _⟩ => ⟨S3x262144x16, .f32⟩
  | .hbm, ⟨7, _⟩ => ⟨S3x16x262144, .f32⟩
  | .hbm, ⟨8, _⟩ => ⟨S262144x3x3, .f32⟩
  | .hbm, ⟨9, _⟩ => ⟨S3x3x262144, .f32⟩
  | .hbm, ⟨10, _⟩ => ⟨S4x3x262144, .f32⟩
  | .hbm, ⟨11, _⟩ => ⟨S4x3x262144, .f32⟩
  | .hbm, ⟨12, _⟩ => ⟨S4x3x512x512, .f32⟩
  | .local _ .vmem, ⟨0, _⟩ => ⟨S3x16x32768, .f32⟩
  | .local _ .vmem, ⟨1, _⟩ => ⟨S3x16x32768, .f32⟩
  | .local _ .vmem, ⟨2, _⟩ => ⟨S3x16x32768, .f32⟩
  | .local _ .vmem, ⟨3, _⟩ => ⟨S3x16x32768, .f32⟩
  | .local _ .vmem, ⟨4, _⟩ => ⟨S4x3x32768, .f32⟩
  | .local _ .vmem, ⟨5, _⟩ => ⟨S4x3x32768, .f32⟩
  | .local _ .vmem, ⟨6, _⟩ => ⟨S3x3x32768, .f32⟩
  | .local _ .vmem, ⟨7, _⟩ => ⟨S3x3x32768, .f32⟩
  | .local _ .vmem, ⟨8, _⟩ => ⟨S4x3x32768, .f32⟩
  | .local _ .vmem, ⟨9, _⟩ => ⟨S4x3x32768, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3x16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x3x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x3x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x3x512x512 : Shape := ⟨4, ![4, 3, 512, 512]⟩
abbrev S512x512x3x3 : Shape := ⟨4, ![512, 512, 3, 3]⟩
abbrev S3x512x512x16 : Shape := ⟨4, ![3, 512, 512, 16]⟩
abbrev S786432x16 : Shape := ⟨2, ![786432, 16]⟩
abbrev S4x786432 : Shape := ⟨2, ![4, 786432]⟩
abbrev S1x786432x16 : Shape := ⟨3, ![1, 786432, 16]⟩
abbrev S4x786432x1 : Shape := ⟨3, ![4, 786432, 1]⟩
abbrev S4x786432x16 : Shape := ⟨3, ![4, 786432, 16]⟩
abbrev S_ : Shape := ⟨0, ![]⟩
abbrev S786432 : Shape := ⟨1, ![786432]⟩
abbrev S1x786432 : Shape := ⟨2, ![1, 786432]⟩
abbrev S4x786432x2 : Shape := ⟨3, ![4, 786432, 2]⟩
abbrev S4x3x262144 : Shape := ⟨3, ![4, 3, 262144]⟩
abbrev S4x262144x3 : Shape := ⟨3, ![4, 262144, 3]⟩
abbrev S262144x3x3 : Shape := ⟨3, ![262144, 3, 3]⟩
abbrev S262144x3x4 : Shape := ⟨3, ![262144, 3, 4]⟩
abbrev S4x512x512x3 : Shape := ⟨4, ![4, 512, 512, 3]⟩

abbrev nBuf : Space → Nat
  | .hbm => 131
  | .vmem => 0
  | .smem => 0
  | _ => 0

abbrev hbmTy0_0 (i : Nat) : BufTy := match i % 128 with
  | 0 => ⟨S4x3x512x512, .f32⟩
  | 1 => ⟨S512x512x3x3, .f32⟩
  | 2 => ⟨S3x512x512x16, .f32⟩
  | 3 => ⟨S3x512x512x16, .f32⟩
  | 4 => ⟨S786432x16, .f32⟩
  | 5 => ⟨S786432x16, .f32⟩
  | 6 => ⟨S4x786432, .f32⟩
  | 7 => ⟨S1x786432x16, .f32⟩
  | 8 => ⟨S4x786432x1, .f32⟩
  | 9 => ⟨S4x786432x16, .f32⟩
  | 10 => ⟨S4x786432x16, .f32⟩
  | 11 => ⟨S4x786432x16, .i1⟩
  | 12 => ⟨S4x786432x16, .i32⟩
  | 13 => ⟨S_, .i32⟩
  | 14 => ⟨S4x786432, .i32⟩
  | 15 => ⟨S_, .i32⟩
  | 16 => ⟨S_, .i32⟩
  | 17 => ⟨S_, .i32⟩
  | 18 => ⟨S4x786432, .i32⟩
  | 19 => ⟨S4x786432, .i32⟩
  | 20 => ⟨S_, .i32⟩
  | 21 => ⟨S4x786432, .i32⟩
  | 22 => ⟨S4x786432, .i32⟩
  | 23 => ⟨S786432, .i32⟩
  | 24 => ⟨S1x786432, .i32⟩
  | 25 => ⟨S_, .i32⟩
  | 26 => ⟨S4x786432, .i32⟩
  | 27 => ⟨S4x786432, .i32⟩
  | 28 => ⟨S_, .i32⟩
  | 29 => ⟨S1x786432, .i32⟩
  | 30 => ⟨S1x786432, .i1⟩
  | 31 => ⟨S_, .i32⟩
  | 32 => ⟨S1x786432, .i32⟩
  | 33 => ⟨S1x786432, .i32⟩
  | 34 => ⟨S1x786432, .i32⟩
  | 35 => ⟨S_, .i32⟩
  | 36 => ⟨S4x786432, .i32⟩
  | 37 => ⟨S4x786432, .i1⟩
  | 38 => ⟨S_, .i32⟩
  | 39 => ⟨S4x786432, .i32⟩
  | 40 => ⟨S4x786432, .i32⟩
  | 41 => ⟨S4x786432, .i32⟩
  | 42 => ⟨S4x786432, .i32⟩
  | 43 => ⟨S4x786432x1, .i32⟩
  | 44 => ⟨S4x786432x1, .i32⟩
  | 45 => ⟨S4x786432x2, .i32⟩
  | 46 => ⟨S4x786432, .f32⟩
  | 47 => ⟨S_, .i32⟩
  | 48 => ⟨S1x786432, .i32⟩
  | 49 => ⟨S1x786432, .i1⟩
  | 50 => ⟨S_, .i32⟩
  | 51 => ⟨S1x786432, .i32⟩
  | 52 => ⟨S1x786432, .i32⟩
  | 53 => ⟨S1x786432, .i32⟩
  | 54 => ⟨S_, .i32⟩
  | 55 => ⟨S4x786432, .i32⟩
  | 56 => ⟨S4x786432, .i1⟩
  | 57 => ⟨S_, .i32⟩
  | 58 => ⟨S4x786432, .i32⟩
  | 59 => ⟨S4x786432, .i32⟩
  | 60 => ⟨S4x786432, .i32⟩
  | 61 => ⟨S4x786432, .i32⟩
  | 62 => ⟨S4x786432x1, .i32⟩
  | 63 => ⟨S4x786432x1, .i32⟩
  | 64 => ⟨S4x786432x2, .i32⟩
  | 65 => ⟨S4x786432, .f32⟩
  | 66 => ⟨S_, .i32⟩
  | 67 => ⟨S4x786432, .i32⟩
  | 68 => ⟨S4x786432, .i32⟩
  | 69 => ⟨S_, .i32⟩
  | 70 => ⟨S1x786432, .i32⟩
  | 71 => ⟨S1x786432, .i1⟩
  | 72 => ⟨S_, .i32⟩
  | 73 => ⟨S1x786432, .i32⟩
  | 74 => ⟨S1x786432, .i32⟩
  | 75 => ⟨S1x786432, .i32⟩
  | 76 => ⟨S_, .i32⟩
  | 77 => ⟨S4x786432, .i32⟩
  | 78 => ⟨S4x786432, .i1⟩
  | 79 => ⟨S_, .i32⟩
  | 80 => ⟨S4x786432, .i32⟩
  | 81 => ⟨S4x786432, .i32⟩
  | 82 => ⟨S4x786432, .i32⟩
  | 83 => ⟨S4x786432, .i32⟩
  | 84 => ⟨S4x786432x1, .i32⟩
  | 85 => ⟨S4x786432x1, .i32⟩
  | 86 => ⟨S4x786432x2, .i32⟩
  | 87 => ⟨S4x786432, .f32⟩
  | 88 => ⟨S_, .i32⟩
  | 89 => ⟨S1x786432, .i32⟩
  | 90 => ⟨S1x786432, .i1⟩
  | 91 => ⟨S_, .i32⟩
  | 92 => ⟨S1x786432, .i32⟩
  | 93 => ⟨S1x786432, .i32⟩
  | 94 => ⟨S1x786432, .i32⟩
  | 95 => ⟨S_, .i32⟩
  | 96 => ⟨S4x786432, .i32⟩
  | 97 => ⟨S4x786432, .i1⟩
  | 98 => ⟨S_, .i32⟩
  | 99 => ⟨S4x786432, .i32⟩
  | 100 => ⟨S4x786432, .i32⟩
  | 101 => ⟨S4x786432, .i32⟩
  | 102 => ⟨S4x786432, .i32⟩
  | 103 => ⟨S4x786432x1, .i32⟩
  | 104 => ⟨S4x786432x1, .i32⟩
  | 105 => ⟨S4x786432x2, .i32⟩
  | 106 => ⟨S4x786432, .f32⟩
  | 107 => ⟨S4x786432, .f32⟩
  | 108 => ⟨S4x786432, .f32⟩
  | 109 => ⟨S_, .f32⟩
  | 110 => ⟨S4x786432, .f32⟩
  | 111 => ⟨S4x786432, .f32⟩
  | 112 => ⟨S4x786432, .f32⟩
  | 113 => ⟨S4x786432, .f32⟩
  | 114 => ⟨S4x786432, .f32⟩
  | 115 => ⟨S4x786432, .f32⟩
  | 116 => ⟨S4x3x262144, .f32⟩
  | 117 => ⟨S4x262144x3, .f32⟩
  | 118 => ⟨S262144x3x3, .f32⟩
  | 119 => ⟨S262144x3x4, .f32⟩
  | 120 => ⟨S4x262144x3, .f32⟩
  | 121 => ⟨S4x512x512x3, .f32⟩
  | 122 => ⟨S4x3x512x512, .f32⟩
  | 123 => ⟨S_, .f32⟩
  | 124 => ⟨S_, .f32⟩
  | 125 => ⟨S_, .f32⟩
  | 126 => ⟨S4x3x512x512, .f32⟩
  | 127 => ⟨S4x3x512x512, .f32⟩
  | _ => ⟨S4x3x512x512, .f32⟩

abbrev hbmTy0_1 (i : Nat) : BufTy := match i % 128 with
  | 0 => ⟨S_, .f32⟩
  | 1 => ⟨S4x3x512x512, .f32⟩
  | 2 => ⟨S4x3x512x512, .f32⟩
  | _ => ⟨S4x3x512x512, .f32⟩

abbrev hbmTy (i : Nat) : BufTy := match i / 128 with
  | 0 => hbmTy0_0 i
  | 1 => hbmTy0_1 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_c_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_14 : Ref sig .tc := ⟨.hbm, 76, rfl⟩
abbrev main_v52 : Ref sig .tc := ⟨.hbm, 77, rfl⟩
abbrev main_v53 : Ref sig .tc := ⟨.hbm, 78, rfl⟩
abbrev main_c_15 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_16 : Ref sig .tc := ⟨.hbm, 88, rfl⟩
abbrev main_v62 : Ref sig .tc := ⟨.hbm, 89, rfl⟩
abbrev main_v63 : Ref sig .tc := ⟨.hbm, 90, rfl⟩
abbrev main_c_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_18 : Ref sig .tc := ⟨.hbm, 95, rfl⟩
abbrev main_v67 : Ref sig .tc := ⟨.hbm, 96, rfl⟩
abbrev main_v68 : Ref sig .tc := ⟨.hbm, 97, rfl⟩
abbrev main_c_19 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_20 : Ref sig .tc := ⟨.hbm, 123, rfl⟩
abbrev main_cst_21 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_v92 : Ref sig .tc := ⟨.hbm, 130, rfl⟩

abbrev nD : Nat := 1
abbrev τ : Topo := Topo.v7x

variable {F : FTy → Type} [FloatOps F]
-- ==== Proof.Block.lean ====
/- What the kernel's body leaves in the output block, row by row: each of its twelve stores is the same function of the
   rows of the input blocks. -/
module

public import proofs.«01_k».proof.Proof.Gen.KernelIdeal.Frame
public import Idealize.ShloMosaic.Lib.ValueIdx
public import Idealize.ShloMosaic.Lib.Pipeline.Value

@[expose] public section

noncomputable section

namespace Cert.KernelIdeal.Block

open Cert.KernelIdeal Cert.KernelIdeal.Gen Idealize.ShloMosaic Idealize.ShloMosaic.ValueIdx

variable {F : FTy → Type} [FloatOps F]

/-! ## The response of one channel, as the body computes it -/

/-- The distance of two neighbouring anchors, with the small constant added. -/
def gap (xp xk : FVec F S32768 .f32) : FVec F S32768 .f32 :=
  addf (subf xk xp) (broadcast S32768 (Scalar.ofBits .f32 0x322BCC77#32))

/-- The slope between two neighbouring anchors. -/
def slope (xp xk yp yk : FVec F S32768 .f32) : FVec F S32768 .f32 := divf (subf yk yp) (gap xp xk)

/-- The row of zeros. -/
def zeros : FVec F S32768 .f32 := broadcast S32768 (Scalar.ofBits .f32 0x00000000#32)

/-- The sum after the first segment and `n` inner segments. -/
def partialSum (X Y : ℕ → FVec F S32768 .f32) (q : FVec F S32768 .f32) : ℕ → FVec F S32768 .f32
  | 0 => addf (Y 0) (mulf (minimumf (subf q (X 0)) (gap (X 0) (X 1))) (slope (X 0) (X 1) (Y 0) (Y 1)))
  | n + 1 => addf (partialSum X Y q n)
      (mulf (minimumf (gap (X (n + 1)) (X (n + 2))) (maximumf zeros (subf q (X (n + 1)))))
        (slope (X (n + 1)) (X (n + 2)) (Y (n + 1)) (Y (n + 2))))

/-- The response: the sum over all fifteen segments. -/
def response (X Y : ℕ → FVec F S32768 .f32) (q : FVec F S32768 .f32) : FVec F S32768 .f32 :=
  addf (partialSum X Y q 13) (mulf (maximumf (subf q (X 14)) zeros) (slope (X 14) (X 15) (Y 14) (Y 15)))

/-- Row `(a, k)` of a block of shape `A × B × 32768`. -/
def row {A B : ℕ} (x : Vec F ⟨3, ![A, B, 32768]⟩ .f32) (a : Fin A) (k : Fin B) : FVec F S32768 .f32 :=
  fun j => x (ix3 a k ⟨(j 0).val, (j 0).isLt⟩)

/-- The rectangle of row `(a, k)` of such a block. -/
def rowRect {A B : ℕ} (a : Fin A) (k : Fin B) : Rect ⟨3, ![A, B, 32768]⟩ :=
  Rect.unit (s := ⟨3, ![A, B, 32768]⟩) ![a.val, k.val, 0] S1x1x32768.size (fun d => match d with
    | ⟨0, _⟩ => a.isLt
    | ⟨1, _⟩ => k.isLt
    | ⟨2, _⟩ => Nat.le_refl 32768)

/-- The `j`-th place of that rectangle is the index `(a, k, j)` of the block. -/
theorem rowRect_emb {A B : ℕ} (a : Fin A) (k : Fin B) (j : S1x1x32768.Idx) :
    (rowRect a k).emb j = ix3 a k ⟨(j 2).val, (j 2).isLt⟩ := by
  have h0 : (j 0).val < 1 := (j 0).isLt
  have h1 : (j 1).val < 1 := (j 1).isLt
  funext d
  apply Fin.ext
  match d with
  | ⟨0, _⟩ => show a.val + 1 * (j 0).val = a.val; omega
  | ⟨1, _⟩ => show k.val + 1 * (j 1).val = k.val; omega
  | ⟨2, _⟩ => show 0 + 1 * (j 2).val = (j 2).val; omega

/-- A load through the rectangle of row `(a, k)`, viewed as a row. -/
def cut {A B : ℕ} (x : Vec F ⟨3, ![A, B, 32768]⟩ .f32) (a : Fin A) (k : Fin B) : FVec F S32768 .f32 :=
  shapeCast S32768 (s := S1x1x32768) (View.ld (Val := Elt F) (e' := .f32) x (rowRect a k)) shapeCasts_S1x1x32768_S32768

/-- Such a load is the row. -/
theorem cut_eq {A B : ℕ} (x : Vec F ⟨3, ![A, B, 32768]⟩ .f32) (a : Fin A) (k : Fin B) : cut x a k = row x a k := by
  funext j
  refine (shapeCast_apply _ _ j (ix3 0 0 ⟨(j 0).val, (j 0).isLt⟩) ?_).trans (congrArg x (rowRect_emb a k _))
  refine (Shape.rowMajor_val_three _).trans (Eq.trans ?_ (Shape.rowMajor_val_one _).symm)
  show (0 * 1 + 0) * 32768 + (j 0).val = (j 0).val
  omega

/-- The rows of anchors (or of responses at anchors) of channel `a`, as the body loads them. -/
def cuts (x : Vec F S3x16x32768 .f32) (a : Fin 3) (k : ℕ) : FVec F S32768 .f32 := cut x a (Fin.ofNat 16 k)

/-! ## The output rows -/

/-- The row of ones. -/
def ones : FVec F S32768 .f32 := broadcast S32768 (Scalar.ofBits .f32 0x3F800000#32)

/-- The response of batch `b` in channel `c`. -/
def resp (x0 x1 : Vec F S3x16x32768 .f32) (x2 : Vec F S4x3x32768 .f32) (b : Fin 4) (c : Fin 3) : FVec F S32768 .f32 :=
  response (cuts x0 c) (cuts x1 c) (cut x2 b c)

/-- Output row `(b, d)`: the three responses of batch `b` mixed by the entries of the row `d`, clipped to `[0, 1]`. -/
def outRow (x0 x1 : Vec F S3x16x32768 .f32) (x2 : Vec F S4x3x32768 .f32) (x3 : Vec F S3x3x32768 .f32) (b : Fin 4) (d : Fin 3) :
    FVec F S32768 .f32 :=
  minimumf ones (maximumf zeros
    (addf (addf (mulf (resp x0 x1 x2 b 0) (cut x3 0 d)) (mulf (resp x0 x1 x2 b 1) (cut x3 1 d)))
      (mulf (resp x0 x1 x2 b 2) (cut x3 2 d))))

/-- The store of a row as row `(b, d)` of the output block. -/
def piece (f : Fin 4 → Fin 3 → FVec F S32768 .f32) (p : Fin 4 × Fin 3) : View.Piece (Elt F) S4x3x32768 .f32 :=
  ⟨rowRect p.1 p.2, shapeCast S1x1x32768 (f p.1 p.2) shapeCasts_S32768_S1x1x32768⟩

/-- The body's twelve stores, last first. -/
def order : List (Fin 4 × Fin 3) := [(3, 2), (3, 1), (3, 0), (2, 2), (2, 1), (2, 0), (1, 2), (1, 1), (1, 0), (0, 2), (0, 1), (0, 0)]

/-- The output block is what these stores leave. -/
theorem out_eq_pieces (x0 x1 : Vec F S3x16x32768 .f32) (x2 : Vec F S4x3x32768 .f32) (x3 : Vec F S3x3x32768 .f32) :
    out0_4 x0 x1 x2 x3 = View.canon (order.map (piece (outRow x0 x1 x2 x3))) := rfl

/-- A row viewed as a block of one row reads the row's element. -/
theorem rowCast_apply (v : FVec F S32768 .f32) (j : S1x1x32768.Idx) :
    shapeCast S1x1x32768 v shapeCasts_S32768_S1x1x32768 j = v (ix1 ⟨(j 2).val, (j 2).isLt⟩) := by
  have h0 : (j 0).val < 1 := (j 0).isLt
  have h1 : (j 1).val < 1 := (j 1).isLt
  refine shapeCast_apply _ _ j _ ?_
  refine (Shape.rowMajor_val_one _).trans (Eq.trans ?_ (Shape.rowMajor_val_three _).symm)
  show (j 2).val = ((j 0).val * 1 + (j 1).val) * 32768 + (j 2).val
  omega

/-- Every output row is stored. -/
theorem mem_order : ∀ (b : Fin 4) (d : Fin 3), (b, d) ∈ order := by decide

/-- Twelve rows stored so are read back at an index as the row there. -/
theorem canon_rows (f : Fin 4 → Fin 3 → FVec F S32768 .f32) (b : Fin 4) (d : Fin 3) (r : Fin 32768) :
    View.canon (order.map (piece f)) (ix3 b d r) = f b d (ix1 r) := by
  refine View.canon_apply_of_pieces (fun y : S4x3x32768.Idx => f (y 0) (y 1) (ix1 (y 2))) (order.map (piece f)) ?_ (ix3 b d r)
    ⟨piece f (b, d), List.mem_map_of_mem (mem_order b d), ?_⟩
  · intro p hp x
    obtain ⟨⟨b', d'⟩, -, rfl⟩ := List.mem_map.mp hp
    exact (rowCast_apply (f b' d') x).trans
      (congrArg (fun y : S4x3x32768.Idx => f (y 0) (y 1) (ix1 (y 2))) (rowRect_emb b' d' x).symm)
  · have h := (rowRect b d).idx_mem (ix3 0 0 r : S1x1x32768.Idx)
    exact (rowRect_emb b d (ix3 0 0 r : S1x1x32768.Idx)) ▸ h

/-- The output block at an index is the output row there. -/
theorem out_apply (x0 x1 : Vec F S3x16x32768 .f32) (x2 : Vec F S4x3x32768 .f32) (x3 : Vec F S3x3x32768 .f32)
    (b : Fin 4) (d : Fin 3) (r : Fin 32768) :
    out0_4 x0 x1 x2 x3 (ix3 b d r) = outRow x0 x1 x2 x3 b d (ix1 r) := by
  rw [out_eq_pieces]
  exact canon_rows (outRow x0 x1 x2 x3) b d r

end Cert.KernelIdeal.Block
-- ==== Proof.Interp.lean ====
/- The mathematics of the claim, on extended reals: a piecewise linear function over sixteen sorted anchors, added up segment
   by segment, is the interpolation inside the segment that holds the query. -/
module

public import Idealize.ShloMosaic.PureOps.Ideal

@[expose] public section

noncomputable section

namespace Cert.Interp

open Idealize.ShloMosaic

/-- The distance of two neighbouring anchors, with the small constant `e` added. -/
def gap (e : EReal) (x : ℕ → EReal) (k : ℕ) : EReal := x (k + 1) - x k + e

/-- The slope of segment `k`. -/
def slope (e : EReal) (x y : ℕ → EReal) (k : ℕ) : EReal := Ideal.div (y (k + 1) - y k) (gap e x k)

/-- The sum after segment `0` and the `n` inner segments after it. -/
def partialSum (e : EReal) (x y : ℕ → EReal) (q : EReal) : ℕ → EReal
  | 0 => y 0 + min (q - x 0) (gap e x 0) * slope e x y 0
  | n + 1 => partialSum e x y q n + min (gap e x (n + 1)) (max 0 (q - x (n + 1))) * slope e x y (n + 1)

/-- The sum over all fifteen segments. -/
def segments (e : EReal) (x y : ℕ → EReal) (q : EReal) : EReal :=
  partialSum e x y q 13 + max (q - x 14) 0 * slope e x y 14

/-- The interpolation inside segment `n`. -/
def inside (e : EReal) (x y : ℕ → EReal) (q : EReal) (n : ℕ) : EReal :=
  y n + Ideal.div (q - x n) (gap e x n) * (y (n + 1) - y n)

section

variable {e : ℝ} {x y : ℕ → ℝ} {q : EReal}

/-- The sequence as extended reals. -/
abbrev up (f : ℕ → ℝ) : ℕ → EReal := fun k => (f k : EReal)

theorem gap_coe (k : ℕ) : gap e (up x) k = ((x (k + 1) - x k + e : ℝ) : EReal) := by
  simp [gap, up]

theorem gap_pos (he : 0 < e) {k : ℕ} (hs : x k ≤ x (k + 1)) : 0 < x (k + 1) - x k + e := by linarith

theorem slope_coe (he : 0 < e) {k : ℕ} (hs : x k ≤ x (k + 1)) :
    slope e (up x) (up y) k = ((y (k + 1) - y k : ℝ) : EReal) * ((1 / (x (k + 1) - x k + e) : ℝ) : EReal) := by
  rw [slope, gap_coe, Ideal.div_coe (gap_pos he hs).ne', up, up, EReal.coe_sub]

/-- A whole segment contributes the difference of the responses at its ends. -/
theorem whole (he : 0 < e) {k : ℕ} (hs : x k ≤ x (k + 1)) :
    (y k : EReal) + gap e (up x) k * slope e (up x) (up y) k = (y (k + 1) : EReal) := by
  rw [gap_coe, slope_coe he hs, ← EReal.coe_mul, ← EReal.coe_mul, ← EReal.coe_add]
  congr 1
  have := (gap_pos he hs).ne'
  field_simp
  ring

/-- The segment holding the query contributes its share. -/
theorem share (he : 0 < e) {k : ℕ} (hs : x k ≤ x (k + 1)) :
    (y k : EReal) + (q - (x k : EReal)) * slope e (up x) (up y) k = inside e (up x) (up y) q k := by
  rw [slope_coe he hs, inside, gap_coe, Ideal.div_coe (gap_pos he hs).ne', up, up, EReal.coe_sub]
  congr 1
  rw [mul_right_comm, mul_assoc]

theorem sub_nonpos_of_le {k : ℕ} (h : q ≤ (x k : EReal)) : q - (x k : EReal) ≤ 0 := by
  refine (EReal.sub_le_sub h le_rfl).trans ?_
  rw [← EReal.coe_sub, sub_self, EReal.coe_zero]

theorem sub_nonneg_of_lt {k : ℕ} (h : (x k : EReal) < q) : 0 ≤ q - (x k : EReal) := by
  refine le_trans ?_ (EReal.sub_le_sub h.le le_rfl)
  rw [← EReal.coe_sub, sub_self, EReal.coe_zero]

/-- A query at or below the segment's right end is not clipped there. -/
theorem sub_le_gap (he : 0 < e) {k : ℕ} (h : q ≤ (x (k + 1) : EReal)) : q - (x k : EReal) ≤ gap e (up x) k := by
  refine (EReal.sub_le_sub h le_rfl).trans ?_
  rw [gap_coe, ← EReal.coe_sub, EReal.coe_le_coe_iff]
  linarith

/-- A query above the segment's right end by at least `e` is clipped to the whole segment. -/
theorem gap_le_sub {k : ℕ} (h : ((x (k + 1) + e : ℝ) : EReal) ≤ q) : gap e (up x) k ≤ q - (x k : EReal) := by
  refine le_trans ?_ (EReal.sub_le_sub h le_rfl)
  rw [gap_coe, ← EReal.coe_sub, EReal.coe_le_coe_iff]
  linarith

variable (he : 0 < e) (hs : ∀ k < 15, x k ≤ x (k + 1)) (n : ℕ) (hn : n ≤ 14)
  (lo : ∀ k, 1 ≤ k → k ≤ n → (x k : EReal) < q ∧ ((x k + e : ℝ) : EReal) ≤ q)
  (hi : ∀ k, n < k → k ≤ 14 → q ≤ (x k : EReal))

include he hs hn lo in
/-- Left of the segment holding the query the sum is the response at the anchor reached. -/
theorem partialSum_left : ∀ m, m + 1 ≤ n → partialSum e (up x) (up y) q m = (y (m + 1) : EReal)
  | 0, hm => by
    rw [partialSum, min_eq_right (gap_le_sub (lo 1 le_rfl hm).2)]
    exact whole he (hs 0 (by omega))
  | m + 1, hm => by
    have h1 := gap_le_sub (lo (m + 2) (by omega) hm).2
    have h0 := sub_nonneg_of_lt (lo (m + 1) (by omega) (by omega)).1
    rw [partialSum, partialSum_left m (by omega), max_eq_right h0, min_eq_left h1]
    exact whole he (hs (m + 1) (by omega))

include he hs hn lo hi in
/-- From the segment holding the query on, the sum is the interpolation inside it. -/
theorem partialSum_right : ∀ m, n ≤ m → m ≤ 13 → partialSum e (up x) (up y) q m = inside e (up x) (up y) q n
  | 0, h, hm => by
    obtain rfl : n = 0 := by omega
    rw [partialSum, min_eq_left (sub_le_gap he (hi 1 (by omega) (by omega)))]
    exact share he (hs 0 (by omega))
  | m + 1, h, hm => by
    rcases Nat.lt_or_ge m n with hlt | hge
    · obtain rfl : n = m + 1 := by omega
      have h0 := sub_nonneg_of_lt (lo (m + 1) (by omega) le_rfl).1
      rw [partialSum, partialSum_left he hs _ hn lo m le_rfl, max_eq_right h0,
        min_eq_right (sub_le_gap he (hi (m + 2) (by omega) (by omega)))]
      exact share he (hs (m + 1) (by omega))
    · have h0 := sub_nonpos_of_le (hi (m + 1) (by omega) (by omega))
      have hg : (0 : EReal) ≤ gap e (up x) (m + 1) := by
        rw [gap_coe]; exact_mod_cast (gap_pos he (hs (m + 1) (by omega))).le
      rw [partialSum, partialSum_right m hge (by omega), max_eq_left h0, min_eq_right hg, zero_mul, add_zero]

include he hs hn lo hi in
/-- The sum over all segments is the interpolation inside the segment holding the query. -/
theorem segments_eq : segments e (up x) (up y) q = inside e (up x) (up y) q n := by
  rcases Nat.lt_or_ge 13 n with h | h
  · obtain rfl : n = 14 := by omega
    have h0 := sub_nonneg_of_lt (lo 14 (by omega) le_rfl).1
    rw [segments, partialSum_left he hs _ hn lo 13 le_rfl, max_eq_left h0]
    exact share he (hs 14 (by omega))
  · have h0 := sub_nonpos_of_le (hi 14 (by omega) le_rfl)
    rw [segments, partialSum_right he hs n hn lo hi 13 h le_rfl, max_eq_right h0, zero_mul, add_zero]

end

end Cert.Interp
-- ==== Proof.Pixel.lean ====
/- The value of one pixel of the result as a function of what the pixel depends on, and the constants of the two programs. -/
module

public import proofs.«01_k».proof.Proof.Interp

@[expose] public section

noncomputable section

namespace Cert.Interp

open Idealize.ShloMosaic

/-- The small constant added to the distance of two anchors, the single precision number nearest to `1e-8`. -/
def eps : ℝ := 11258999 / 2 ^ 50

theorem eps_pos : 0 < eps := by unfold eps; norm_num

/-- The word `0x322BCC77` is read as `eps`. -/
theorem word_eps : Ideal.ofBits .f32 0x322BCC77#32 = (eps : EReal) := by
  simp [Ideal.ofBits, Ideal.ieee, -EReal.coe_mul, eps]; norm_num

/-- The zero word is read as zero. -/
theorem word_zero : Ideal.ofBits .f32 0x00000000#32 = (0 : EReal) := by
  simp [Ideal.ofBits, Ideal.ieee, -EReal.coe_mul]

/-- The word `0x3F800000` is read as one. -/
theorem word_one : Ideal.ofBits .f32 0x3F800000#32 = (1 : EReal) := by
  simp [Ideal.ofBits, Ideal.ieee, -EReal.coe_mul]; norm_num

/-- The word `0x7F800000` is read as positive infinity. -/
theorem word_top : Ideal.ofBits .f32 0x7F800000#32 = (⊤ : EReal) := by
  simp [Ideal.ofBits, Ideal.ieee, -EReal.coe_mul]

/-- One pixel of the result: the three responses mixed by one column of the colour matrix, clipped to `[0, 1]`. -/
def mix (r v : Fin 3 → EReal) : EReal := min 1 (max 0 (r 0 * v 0 + r 1 * v 1 + r 2 * v 2))

end Cert.Interp

end
-- ==== Proof.Kernel.lean ====
/- What the kernel leaves in its result, read at an index: the arrays that its windows read are the arguments laid out anew,
   the blocks its grid points write back tile the output array, and the result is that array laid out anew. -/
module

public import proofs.«01_k».proof.Proof.Block
public import proofs.«01_k».proof.Proof.Pixel

@[expose] public section

noncomputable section

namespace Cert.KernelIdeal.Result

open Cert.KernelIdeal Cert.KernelIdeal.Gen Idealize.ShloMosaic Idealize.ShloMosaic.TcCoe Idealize.ShloMosaic.ValueIdx Idealize.SL.Sem

/-! ## One row of the output block, element by element -/

/-- The row of zeros holds zeros. -/
theorem zeros_eq : (Block.zeros : FVec Ideal S32768 .f32) = fun _ => (0 : EReal) := funext fun _ => Interp.word_zero

/-- The row of ones holds ones. -/
theorem ones_eq : (Block.ones : FVec Ideal S32768 .f32) = fun _ => (1 : EReal) := funext fun _ => Interp.word_one

/-- The distance of two rows of anchors, at an element. -/
theorem gap_apply (X : ℕ → FVec Ideal S32768 .f32) (k : ℕ) (j : S32768.Idx) :
    Block.gap (X k) (X (k + 1)) j = Interp.gap Interp.eps (fun k => X k j) k :=
  congrArg (fun e : EReal => X (k + 1) j - X k j + e) Interp.word_eps

/-- The slope between two rows, at an element. -/
theorem slope_apply (X Y : ℕ → FVec Ideal S32768 .f32) (k : ℕ) (j : S32768.Idx) :
    Block.slope (X k) (X (k + 1)) (Y k) (Y (k + 1)) j = Interp.slope Interp.eps (fun k => X k j) (fun k => Y k j) k :=
  congrArg (Ideal.div (Y (k + 1) j - Y k j)) (gap_apply X k j)

/-- The partial sum of rows, at an element. -/
theorem partialSum_apply (X Y : ℕ → FVec Ideal S32768 .f32) (q : FVec Ideal S32768 .f32) (j : S32768.Idx) (n : ℕ) :
    Block.partialSum X Y q n j = Interp.partialSum Interp.eps (fun k => X k j) (fun k => Y k j) (q j) n := by
  induction n with
  | zero =>
    show Y 0 j + min (q j - X 0 j) (Block.gap (X 0) (X 1) j) * Block.slope (X 0) (X 1) (Y 0) (Y 1) j = _
    rw [gap_apply X 0, slope_apply X Y 0]
    rfl
  | succ n ih =>
    show Block.partialSum X Y q n j + min (Block.gap (X (n + 1)) (X (n + 2)) j) (max (Block.zeros (F := Ideal) j) (q j - X (n + 1) j))
      * Block.slope (X (n + 1)) (X (n + 2)) (Y (n + 1)) (Y (n + 2)) j = _
    rw [ih, gap_apply X (n + 1), slope_apply X Y (n + 1), zeros_eq]
    rfl

/-- The response of rows, at an element. -/
theorem response_apply (X Y : ℕ → FVec Ideal S32768 .f32) (q : FVec Ideal S32768 .f32) (j : S32768.Idx) :
    Block.response X Y q j = Interp.segments Interp.eps (fun k => X k j) (fun k => Y k j) (q j) := by
  show Block.partialSum X Y q 13 j + max (q j - X 14 j) (Block.zeros (F := Ideal) j) * Block.slope (X 14) (X 15) (Y 14) (Y 15) j = _
  rw [partialSum_apply, slope_apply X Y 14, zeros_eq]
  rfl

/-- An output row, at an element. -/
theorem outRow_apply (x0 x1 : Vec Ideal S3x16x32768 .f32) (x2 : Vec Ideal S4x3x32768 .f32) (x3 : Vec Ideal S3x3x32768 .f32)
    (b : Fin 4) (d : Fin 3) (r : Fin 32768) :
    Block.outRow x0 x1 x2 x3 b d (ix1 r) = Interp.mix
      (fun a => Interp.segments Interp.eps (fun k => x0 (ix3 a (Fin.ofNat 16 k) r)) (fun k => x1 (ix3 a (Fin.ofNat 16 k) r)) (x2 (ix3 b a r)))
      (fun a => x3 (ix3 a d r)) := by
  have hr (a : Fin 3) : Block.resp x0 x1 x2 b a (ix1 r)
      = Interp.segments Interp.eps (fun k => x0 (ix3 a (Fin.ofNat 16 k) r)) (fun k => x1 (ix3 a (Fin.ofNat 16 k) r)) (x2 (ix3 b a r)) := by
    unfold Block.resp
    rw [response_apply]
    simp only [Block.cuts, Block.cut_eq]
    rfl
  have hv (a : Fin 3) : Block.cut x3 a d (ix1 r) = x3 (ix3 a d r) := by rw [Block.cut_eq]; rfl
  show min (Block.ones (F := Ideal) (ix1 r)) (max (Block.zeros (F := Ideal) (ix1 r))
    (Block.resp x0 x1 x2 b 0 (ix1 r) * Block.cut x3 0 d (ix1 r) + Block.resp x0 x1 x2 b 1 (ix1 r) * Block.cut x3 1 d (ix1 r)
      + Block.resp x0 x1 x2 b 2 (ix1 r) * Block.cut x3 2 d (ix1 r))) = _
  rw [hr, hr, hr, hv, hv, hv, zeros_eq, ones_eq]
  rfl

/-! ## The arrays the windows read -/

variable (m : (ℓ : Loc nD τ sig) → Buf (Elt Ideal) ℓ)

/-- The row and the column of a pixel's place. -/
def pr (p : Fin 262144) : Fin 512 := ⟨p.val / 512, by omega⟩
@[inherit_doc pr] def pc (p : Fin 262144) : Fin 512 := ⟨p.val % 512, by omega⟩

/-- A table of one row of sixteen per channel and pixel, with the pixels along the last axis, reads the table. -/
theorem table_apply (x : Vec Ideal S3x512x512x16 .f32) (a : Fin 3) (k : Fin 16) (p : Fin 262144) :
    transpose S3x16x262144 [0, 2, 1] (shapeCast S3x262144x16 x shapeCasts_S3x512x512x16_S3x262144x16)
      transposes_S3x262144x16_S3x16x262144_0_2_1 (ix3 a k p) = x (ix4 a (pr p) (pc p) k) := by
  refine (transpose_apply _ _ _ _ (ix3 a p k) fun b => ?_).trans (shapeCast_apply _ _ _ (ix4 a (pr p) (pc p) k) ?_)
  · match b with
    | ⟨0, _⟩ => rfl
    | ⟨1, _⟩ => rfl
    | ⟨2, _⟩ => rfl
  · refine (Shape.rowMajor_val_four _).trans (Eq.trans ?_ (Shape.rowMajor_val_three _).symm)
    show ((a.val * 512 + p.val / 512) * 512 + p.val % 512) * 16 + k.val = (a.val * 262144 + p.val) * 16 + k.val
    omega

/-- The colour matrices with the pixels along the last axis read the matrices. -/
theorem colour_apply (x : Vec Ideal S512x512x3x3 .f32) (a d : Fin 3) (p : Fin 262144) :
    transpose S3x3x262144 [1, 2, 0] (shapeCast S262144x3x3 x shapeCasts_S512x512x3x3_S262144x3x3)
      transposes_S262144x3x3_S3x3x262144_1_2_0 (ix3 a d p) = x (ix4 (pr p) (pc p) a d) := by
  refine (transpose_apply _ _ _ _ (ix3 p a d) fun b => ?_).trans (shapeCast_apply _ _ _ (ix4 (pr p) (pc p) a d) ?_)
  · match b with
    | ⟨0, _⟩ => rfl
    | ⟨1, _⟩ => rfl
    | ⟨2, _⟩ => rfl
  · refine (Shape.rowMajor_val_four _).trans (Eq.trans ?_ (Shape.rowMajor_val_three _).symm)
    show ((p.val / 512 * 512 + p.val % 512) * 3 + a.val) * 3 + d.val = (p.val * 3 + a.val) * 3 + d.val
    omega

/-- An image with its pixels along one axis reads the image. -/
theorem image_apply (x : Vec Ideal S4x3x512x512 .f32) (b : Fin 4) (a : Fin 3) (p : Fin 262144) :
    shapeCast S4x3x262144 x shapeCasts_S4x3x512x512_S4x3x262144 (ix3 b a p) = x (ix4 b a (pr p) (pc p)) := by
  refine shapeCast_apply _ _ _ (ix4 b a (pr p) (pc p)) ?_
  refine (Shape.rowMajor_val_four _).trans (Eq.trans ?_ (Shape.rowMajor_val_three _).symm)
  show ((b.val * 3 + a.val) * 512 + p.val / 512) * 512 + p.val % 512 = (b.val * 3 + a.val) * 262144 + p.val
  omega

/-- Window 0's array is the table of anchors, laid out anew. -/
theorem V_anchors (c : Dev nD) : V m c main_call0_v1
    = transpose S3x16x262144 [0, 2, 1] (shapeCast S3x262144x16 (m ((c : Thread nD τ).loc main_arg2)) shapeCasts_S3x512x512x16_S3x262144x16)
        transposes_S3x262144x16_S3x16x262144_0_2_1 := by
  show StableHlo.after (List.flatten [hostOps0]) _ (Proc.devRef .tc main_call0_v1) = _
  simp only [hostOps0, List.flatten_cons, List.flatten_nil, List.append_nil]
  after_results
  rfl

/-- Window 1's array is the table of responses, laid out anew. -/
theorem V_responses (c : Dev nD) : V m c main_call0_v3
    = transpose S3x16x262144 [0, 2, 1] (shapeCast S3x262144x16 (m ((c : Thread nD τ).loc main_arg3)) shapeCasts_S3x512x512x16_S3x262144x16)
        transposes_S3x262144x16_S3x16x262144_0_2_1 := by
  show StableHlo.after (List.flatten [hostOps0]) _ (Proc.devRef .tc main_call0_v3) = _
  simp only [hostOps0, List.flatten_cons, List.flatten_nil, List.append_nil]
  after_results
  rfl

/-- Window 2's array is the image, laid out anew. -/
theorem V_image (c : Dev nD) : V m c main_call0_v6
    = shapeCast S4x3x262144 (m ((c : Thread nD τ).loc main_arg0)) shapeCasts_S4x3x512x512_S4x3x262144 := by
  show StableHlo.after (List.flatten [hostOps0]) _ (Proc.devRef .tc main_call0_v6) = _
  simp only [hostOps0, List.flatten_cons, List.flatten_nil, List.append_nil]
  after_results
  rfl

/-- Window 3's array holds the colour matrices, laid out anew. -/
theorem V_colour (c : Dev nD) : V m c main_call0_v5
    = transpose S3x3x262144 [1, 2, 0] (shapeCast S262144x3x3 (m ((c : Thread nD τ).loc main_arg1)) shapeCasts_S512x512x3x3_S262144x3x3)
        transposes_S262144x3x3_S3x3x262144_1_2_0 := by
  show StableHlo.after (List.flatten [hostOps0]) _ (Proc.devRef .tc main_call0_v5) = _
  simp only [hostOps0, List.flatten_cons, List.flatten_nil, List.append_nil]
  after_results
  rfl

/-! ## The blocks -/

/-- Every window moves along its last axis with the grid point and stays at the start of the other two. -/
theorem index_facts : ∀ t : Fin cfg0.N,
    (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 3) = 0 ∧ win0_2.index t (1 : Fin 3) = 0 ∧ win0_2.index t (2 : Fin 3) = t.val)
    ∧ (win0_3.index t (0 : Fin 3) = 0 ∧ win0_3.index t (1 : Fin 3) = 0 ∧ win0_3.index t (2 : Fin 3) = t.val)
    ∧ (win0_4.index t (0 : Fin 3) = 0 ∧ win0_4.index t (1 : Fin 3) = 0 ∧ win0_4.index t (2 : Fin 3) = t.val) :=
  (by decide +kernel : ∀ t : Fin grid0.N, _)

/-- The place in the image of element `r` of the block of point `t`. -/
def place (t : Fin cfg0.N) (r : Fin 32768) : Fin 262144 :=
  ⟨t.val * 32768 + r.val, by have h : t.val < 8 := N_0 ▸ t.isLt; omega⟩

theorem emb0 (t : Fin cfg0.N) (a : Fin 3) (k : Fin 16) (r : Fin 32768) :
    ((cfg0.win 0).blk t).view.emb (ix3 a k r) = ix3 a k (place t r) := by
  obtain ⟨e0, e1, e2⟩ := (index_facts t).1
  funext d; apply Fin.ext
  match d with
  | ⟨0, _⟩ => show win0_0.index t (0 : Fin 3) * 3 + 1 * a.val = a.val; omega
  | ⟨1, _⟩ => show win0_0.index t (1 : Fin 3) * 16 + 1 * k.val = k.val; omega
  | ⟨2, _⟩ => show win0_0.index t (2 : Fin 3) * 32768 + 1 * r.val = t.val * 32768 + r.val; omega

theorem emb1 (t : Fin cfg0.N) (a : Fin 3) (k : Fin 16) (r : Fin 32768) :
    ((cfg0.win 1).blk t).view.emb (ix3 a k r) = ix3 a k (place t r) := by
  obtain ⟨e0, e1, e2⟩ := (index_facts t).2.1
  funext d; apply Fin.ext
  match d with
  | ⟨0, _⟩ => show win0_1.index t (0 : Fin 3) * 3 + 1 * a.val = a.val; omega
  | ⟨1, _⟩ => show win0_1.index t (1 : Fin 3) * 16 + 1 * k.val = k.val; omega
  | ⟨2, _⟩ => show win0_1.index t (2 : Fin 3) * 32768 + 1 * r.val = t.val * 32768 + r.val; omega

theorem emb2 (t : Fin cfg0.N) (b : Fin 4) (a : Fin 3) (r : Fin 32768) :
    ((cfg0.win 2).blk t).view.emb (ix3 b a r) = ix3 b a (place t r) := by
  obtain ⟨e0, e1, e2⟩ := (index_facts t).2.2.1
  funext d; apply Fin.ext
  match d with
  | ⟨0, _⟩ => show win0_2.index t (0 : Fin 3) * 4 + 1 * b.val = b.val; omega
  | ⟨1, _⟩ => show win0_2.index t (1 : Fin 3) * 3 + 1 * a.val = a.val; omega
  | ⟨2, _⟩ => show win0_2.index t (2 : Fin 3) * 32768 + 1 * r.val = t.val * 32768 + r.val; omega

theorem emb3 (t : Fin cfg0.N) (a d : Fin 3) (r : Fin 32768) :
    ((cfg0.win 3).blk t).view.emb (ix3 a d r) = ix3 a d (place t r) := by
  obtain ⟨e0, e1, e2⟩ := (index_facts t).2.2.2.1
  funext z; apply Fin.ext
  match z with
  | ⟨0, _⟩ => show win0_3.index t (0 : Fin 3) * 3 + 1 * a.val = a.val; omega
  | ⟨1, _⟩ => show win0_3.index t (1 : Fin 3) * 3 + 1 * d.val = d.val; omega
  | ⟨2, _⟩ => show win0_3.index t (2 : Fin 3) * 32768 + 1 * r.val = t.val * 32768 + r.val; omega

theorem emb4 (t : Fin cfg0.N) (b : Fin 4) (d : Fin 3) (r : Fin 32768) :
    ((cfg0.win 4).blk t).view.emb (ix3 b d r) = ix3 b d (place t r) := by
  obtain ⟨e0, e1, e2⟩ := (index_facts t).2.2.2.2
  funext z; apply Fin.ext
  match z with
  | ⟨0, _⟩ => show win0_4.index t (0 : Fin 3) * 4 + 1 * b.val = b.val; omega
  | ⟨1, _⟩ => show win0_4.index t (1 : Fin 3) * 3 + 1 * d.val = d.val; omega
  | ⟨2, _⟩ => show win0_4.index t (2 : Fin 3) * 32768 + 1 * r.val = t.val * 32768 + r.val; omega

/-- The block of anchors at a point reads the table of anchors. -/
theorem block_anchors (c : Dev nD) (t : Fin cfg0.N) (a : Fin 3) (k : Fin 16) (r : Fin 32768) :
    iblk m c 0 t (ix3 a k r) = m ((c : Thread nD τ).loc main_arg2) (ix4 a (pr (place t r)) (pc (place t r)) k) := by
  show V m c main_call0_v1 (((cfg0.win 0).blk t).view.emb (ix3 a k r)) = _
  rw [emb0, V_anchors, table_apply]

/-- The block of responses at a point reads the table of responses. -/
theorem block_responses (c : Dev nD) (t : Fin cfg0.N) (a : Fin 3) (k : Fin 16) (r : Fin 32768) :
    iblk m c 1 t (ix3 a k r) = m ((c : Thread nD τ).loc main_arg3) (ix4 a (pr (place t r)) (pc (place t r)) k) := by
  show V m c main_call0_v3 (((cfg0.win 1).blk t).view.emb (ix3 a k r)) = _
  rw [emb1, V_responses, table_apply]

/-- The block of the image at a point reads the image. -/
theorem block_image (c : Dev nD) (t : Fin cfg0.N) (b : Fin 4) (a : Fin 3) (r : Fin 32768) :
    iblk m c 2 t (ix3 b a r) = m ((c : Thread nD τ).loc main_arg0) (ix4 b a (pr (place t r)) (pc (place t r))) := by
  show V m c main_call0_v6 (((cfg0.win 2).blk t).view.emb (ix3 b a r)) = _
  rw [emb2, V_image, image_apply]

/-- The block of colour matrices at a point reads the colour matrices. -/
theorem block_colour (c : Dev nD) (t : Fin cfg0.N) (a d : Fin 3) (r : Fin 32768) :
    iblk m c 3 t (ix3 a d r) = m ((c : Thread nD τ).loc main_arg1) (ix4 (pr (place t r)) (pc (place t r)) a d) := by
  show V m c main_call0_v5 (((cfg0.win 3).blk t).view.emb (ix3 a d r)) = _
  rw [emb3, V_colour, colour_apply]

/-! ## The result -/

/-- The pixel of the result at row `h` and column `w`, as the kernel computes it from the four arguments. -/
def pixel (q : Vec Ideal S4x3x512x512 .f32) (v : Vec Ideal S512x512x3x3 .f32) (x y : Vec Ideal S3x512x512x16 .f32)
    (b : Fin 4) (d : Fin 3) (h w : Fin 512) : EReal :=
  Interp.mix
    (fun a => Interp.segments Interp.eps (fun k => x (ix4 a h w (Fin.ofNat 16 k))) (fun k => y (ix4 a h w (Fin.ofNat 16 k))) (q (ix4 b a h w)))
    (fun a => v (ix4 h w a d))

/-- The pixel of core `c`'s arguments. -/
def pixelOf (c : Dev nD) : Fin 4 → Fin 3 → Fin 512 → Fin 512 → EReal :=
  pixel (m ((c : Thread nD τ).loc main_arg0)) (m ((c : Thread nD τ).loc main_arg1)) (m ((c : Thread nD τ).loc main_arg2))
    (m ((c : Thread nD τ).loc main_arg3))

/-- The output array, with the pixels along one axis. -/
def flat (c : Dev nD) : Vec Ideal S4x3x262144 .f32 := fun i => pixelOf m c (i 0) (i 1) (pr (i 2)) (pc (i 2))

/-- What a point leaves in the output block, at an element. -/
theorem block_out (c : Dev nD) (t : Fin cfg0.N) (b : Fin 4) (d : Fin 3) (r : Fin 32768) :
    out0_4 (iblk m c 0 t) (iblk m c 1 t) (iblk m c 2 t) (iblk m c 3 t) (ix3 b d r) = flat m c (ix3 b d (place t r)) := by
  rw [Block.out_apply, outRow_apply]
  simp only [block_anchors, block_responses, block_image, block_colour]
  rfl

/-- What a point writes back is its block of `flat`. -/
theorem flushed_eq (c : Dev nD) (t : Fin cfg0.N) :
    (dats m 0 c).flushed 4 t = ((cfg0.win 4).blk t).view.read (Elt Ideal) (flat m c) := by
  show (cfg0.win 4).cut (grid0.coords t) ((dats m 0 c).after 4 t) = _
  rw [after0_4]
  funext y
  obtain ⟨b, d, r, rfl⟩ : ∃ (b : Fin 4) (d : Fin 3) (r : Fin 32768), y = ix3 b d r := ⟨y 0, y 1, y 2, eq_ix3 y⟩
  show out0_4 (iblk m c 0 t) (iblk m c 1 t) (iblk m c 2 t) (iblk m c 3 t) (ix3 b d r) = flat m c (((cfg0.win 4).blk t).view.emb (ix3 b d r))
  rw [emb4]
  exact block_out m c t b d r

/-- The blocks tile the output array. -/
theorem covered (i : S4x3x262144.Idx) : ∃ t : Fin cfg0.N, (cfg0.win 4).flush t = true ∧ i ∈ ((cfg0.win 4).blk t).view.set := by
  obtain ⟨b, d, p, rfl⟩ : ∃ (b : Fin 4) (d : Fin 3) (p : Fin 262144), i = ix3 b d p := ⟨i 0, i 1, i 2, eq_ix3 i⟩
  have ht : p.val / 32768 < cfg0.N := by rw [show cfg0.N = 8 from N_0]; omega
  have e : place ⟨p.val / 32768, ht⟩ ⟨p.val % 32768, by omega⟩ = p :=
    Fin.ext (by show p.val / 32768 * 32768 + p.val % 32768 = p.val; omega)
  have h := View.emb_mem_set ((cfg0.win 4).blk ⟨p.val / 32768, ht⟩).view (ix3 b d ⟨p.val % 32768, by omega⟩)
  rw [emb4, e] at h
  exact ⟨⟨p.val / 32768, ht⟩, flush0_4 _, h⟩

/-- The output array after the run is `flat`. -/
theorem array_eq (c : Dev nD) : (dats m 0 c).arrAt 4 cfg0.N = flat m c :=
  (dats m 0 c).arrAt_eq_of_cover 4 (flat m c) (fun t _ => flushed_eq m c t) covered

/-- What follows the kernel's region lays the output array out with its pixels on two axes. -/
theorem after_tail (W : Valuation τ sig (Elt Ideal)) : StableHlo.after (List.flatten [hostOps1]) W (Proc.devRef .tc main_v0)
    = shapeCast S4x3x512x512 (W (Proc.devRef .tc main_call0_v7)) shapeCasts_S4x3x262144_S4x3x512x512 := by
  simp only [hostOps1, List.flatten_cons, List.flatten_nil, List.append_nil]
  after_results
  rfl

/-- No two windows read or write the same array. -/
theorem arrays_apart : Function.Injective (Pipeline.arrRef spec0) := by decide

/-- The result after the run: the output array with its pixels on two axes. -/
theorem tail_eq (c : Dev nD) : Pipeline.afterTail₀ cfgs (dats m) 0 (V0 m) [hostOps1] c main_v0
    = shapeCast S4x3x512x512 (flat m c) shapeCasts_S4x3x262144_S4x3x512x512 := by
  refine (after_tail _).trans (congrArg (fun z => shapeCast S4x3x512x512 z shapeCasts_S4x3x262144_S4x3x512x512) ?_)
  exact (Pipeline.withArrays_arr spec0 arrays_apart c (V0 m c) _ 4).trans (array_eq m c)

/-- The result, as a function of its index. -/
def result (c : Dev nD) : Vec Ideal S4x3x512x512 .f32 := fun i => pixelOf m c (i 0) (i 1) (i 2) (i 3)

theorem tail_result (c : Dev nD) : Pipeline.afterTail₀ cfgs (dats m) 0 (V0 m) [hostOps1] c main_v0 = result m c := by
  rw [tail_eq]
  funext i
  have h2 : (i 2).val < 512 := (i 2).isLt
  have h3 : (i 3).val < 512 := (i 3).isLt
  refine (shapeCast_apply _ _ i (ix3 (i 0) (i 1) ⟨(i 2).val * 512 + (i 3).val, by omega⟩) ?_).trans ?_
  · refine (Shape.rowMajor_val_three _).trans (Eq.trans ?_ (Shape.rowMajor_val_four _).symm)
    show ((i 0).val * 3 + (i 1).val) * 262144 + ((i 2).val * 512 + (i 3).val) = (((i 0).val * 3 + (i 1).val) * 512 + (i 2).val) * 512 + (i 3).val
    omega
  · have e2 : pr ⟨(i 2).val * 512 + (i 3).val, by omega⟩ = i 2 := Fin.ext (by show ((i 2).val * 512 + (i 3).val) / 512 = (i 2).val; omega)
    have e3 : pc ⟨(i 2).val * 512 + (i 3).val, by omega⟩ = i 3 := Fin.ext (by show ((i 2).val * 512 + (i 3).val) % 512 = (i 3).val; omega)
    show pixelOf m c (i 0) (i 1) (pr ⟨(i 2).val * 512 + (i 3).val, _⟩) (pc ⟨(i 2).val * 512 + (i 3).val, _⟩) = _
    rw [e2, e3]
    rfl

variable (ρ : Dev nD → PrngReg)

/-- The kernel's run leaves `result` and changes no argument. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h.1 c).2 main_v0 (Pipeline.mem_restRefs_of main_v0 (by decide) (by decide)) |>.trans (tail_result m c), h.2 c⟩)
    (θ_run_and (run_main m ρ) (unchanged m ρ))

end Cert.KernelIdeal.Result

end
-- ==== Proof.Assume.lean ====
/- What the precondition says of the arguments: anchors and responses are real numbers, the anchors of a row are in order, and
   a query above an inner anchor is above it by at least the small constant. -/
module

public import proofs.«01_k».proof.Proof.Gen.Pre_anchors_sorted_and_apart
public import proofs.«01_k».proof.Proof.Pixel
public import Idealize.ShloMosaic.Lib.ValueIdx
public import Idealize.ShloMosaic.Lib.ReduceAll
public import Idealize.ShloMosaic.Lib.Pipeline.Value

@[expose] public section

noncomputable section

namespace Cert.Pre_anchors_sorted_and_apart.Meaning

open Cert.Pre_anchors_sorted_and_apart Cert.Pre_anchors_sorted_and_apart.Gen Idealize.ShloMosaic Idealize.ShloMosaic.ValueIdx

/-- The precondition in words of the extended reals. -/
structure Good (q : Vec Ideal S4x3x512x512 .f32) (x y : Vec Ideal S3x512x512x16 .f32) : Prop where
  /-- Anchors are real numbers. -/
  anchor : ∀ i, ∃ r : ℝ, x i = (r : EReal)
  /-- Responses are real numbers. -/
  response : ∀ i, ∃ r : ℝ, y i = (r : EReal)
  /-- The anchors of a row are in order. -/
  sorted : ∀ (a : Fin 3) (h w : Fin 512) (k : Fin 15), x (ix4 a h w k.castSucc) ≤ x (ix4 a h w k.succ)
  /-- A query is below an inner anchor or above it by at least the small constant. -/
  apart : ∀ (b : Fin 4) (a : Fin 3) (h w : Fin 512) (k : Fin 14),
    q (ix4 b a h w) ≤ x (ix4 a h w k.succ.castSucc) ∨ x (ix4 a h w k.succ.castSucc) + (Interp.eps : EReal) ≤ q (ix4 b a h w)

/-- A word of one bit made from a decision is one exactly when the decision holds. -/
theorem bit_one {p : Prop} [Decidable p] (h : BitVec.ofBool (decide p) = 1#1) : p := by
  by_cases hp : p
  · exact hp
  · rw [decide_eq_false hp] at h
    exact absurd h (by decide)

/-- Of two words of one bit whose disjunction is one, one is one. -/
theorem or_one : ∀ a b : BitVec 1, IntOp.ori a b = 1#1 → a = 1#1 ∨ b = 1#1 := by decide

/-- An extended real whose absolute value is below infinity is a real number. -/
theorem real_of_abs {z : EReal} (h : max z (-z) < ⊤) : ∃ r : ℝ, z = (r : EReal) := by
  induction z with
  | bot => simp at h
  | top => simp at h
  | coe r => exact ⟨r, rfl⟩

instance : Subsingleton S_.Idx := ⟨fun i j => funext fun a => a.elim0⟩

/-- The three parts of the precondition, each an array of bits that are all one. -/
theorem parts (q : Vec Ideal S4x3x512x512 .f32) (v : Vec Ideal S512x512x3x3 .f32) (x y : Vec Ideal S3x512x512x16 .f32)
    (h : fn (F := Ideal) q v x y = fun _ => 1#1) :
    (∀ i, max (x i) (-x i) < ⊤ ∧ max (y i) (-y i) < ⊤)
    ∧ (∀ i, extractStridedSlice S3x512x512x15 ![0, 0, 0, 0] x slices_S3x512x512x16_S3x512x512x15_0_0_0_0 i
        ≤ extractStridedSlice S3x512x512x15 ![0, 0, 0, 1] x slices_S3x512x512x16_S3x512x512x15_0_0_0_1 i)
    ∧ ∀ i, broadcastInDim S4x3x512x512x14 ![0, 1, 2, 3, 4] bcast_S4x3x512x512x1_S4x3x512x512x14_0_1_2_3_4
          (broadcastInDim S4x3x512x512x1 ![0, 1, 2, 3] bcast_S4x3x512x512_S4x3x512x512x1_0_1_2_3 q) i
        ≤ broadcastInDim S4x3x512x512x14 ![0, 1, 2, 3, 4] bcast_S1x3x512x512x14_S4x3x512x512x14_0_1_2_3_4
          (broadcastInDim S1x3x512x512x14 ![1, 2, 3, 4] bcast_S3x512x512x14_S1x3x512x512x14_1_2_3_4
            (extractStridedSlice S3x512x512x14 ![0, 0, 0, 1] x slices_S3x512x512x16_S3x512x512x14_0_0_0_1)) i
      ∨ broadcastInDim S4x3x512x512x14 ![0, 1, 2, 3, 4] bcast_S1x3x512x512x14_S4x3x512x512x14_0_1_2_3_4
          (fun i => broadcastInDim S1x3x512x512x14 ![1, 2, 3, 4] bcast_S3x512x512x14_S1x3x512x512x14_1_2_3_4
            (extractStridedSlice S3x512x512x14 ![0, 0, 0, 1] x slices_S3x512x512x16_S3x512x512x14_0_0_0_1) i + (Interp.eps : EReal)) i
        ≤ broadcastInDim S4x3x512x512x14 ![0, 1, 2, 3, 4] bcast_S4x3x512x512x1_S4x3x512x512x14_0_1_2_3_4
          (broadcastInDim S4x3x512x512x1 ![0, 1, 2, 3] bcast_S4x3x512x512_S4x3x512x512x1_0_1_2_3 q) i := by
  have h0 := congrFun h ix0
  unfold fn fn_part1 at h0
  obtain ⟨h1, h2⟩ := IntOp.andi_eq_one.1 h0
  obtain ⟨h3, h4⟩ := IntOp.andi_eq_one.1 h1
  refine ⟨fun i => ?_, fun i => ?_, fun i => ?_⟩
  · obtain ⟨e1, e2⟩ := IntOp.andi_eq_one.1 (Host.reduce_andi_all _ _ _ _ _ h3 i)
    have f1 : max (x i) (-x i) < Ideal.ofBits .f32 0x7F800000#32 := bit_one e1
    have f2 : max (y i) (-y i) < Ideal.ofBits .f32 0x7F800000#32 := bit_one e2
    rw [Interp.word_top] at f1 f2
    exact ⟨f1, f2⟩
  · exact bit_one (Host.reduce_andi_all _ _ _ _ _ h4 i)
  · rcases or_one _ _ (Host.reduce_andi_all _ _ _ _ _ h2 i) with e | e
    · exact .inl (bit_one e)
    · refine .inr (le_of_eq_of_le ?_ (bit_one e))
      exact congrArg (fun z => broadcastInDim S4x3x512x512x14 ![0, 1, 2, 3, 4] bcast_S1x3x512x512x14_S4x3x512x512x14_0_1_2_3_4 z i)
        (funext fun i => congrArg (broadcastInDim S1x3x512x512x14 ![1, 2, 3, 4] bcast_S3x512x512x14_S1x3x512x512x14_1_2_3_4
            (extractStridedSlice S3x512x512x14 ![0, 0, 0, 1] x slices_S3x512x512x16_S3x512x512x14_0_0_0_1) i + ·) Interp.word_eps.symm)

/-- The inner anchors beside every query of the same place. -/
theorem inner_apply (x : Vec Ideal S3x512x512x16 .f32) (u : Fin 1) (a : Fin 3) (h w : Fin 512) (k : Fin 14) :
    broadcastInDim S1x3x512x512x14 ![1, 2, 3, 4] bcast_S3x512x512x14_S1x3x512x512x14_1_2_3_4
      (extractStridedSlice S3x512x512x14 ![0, 0, 0, 1] x slices_S3x512x512x16_S3x512x512x14_0_0_0_1) (ix5 u a h w k)
      = x (ix4 a h w k.succ.castSucc) := by
  refine (broadcastInDim_apply _ _ _ _ (ix4 a h w k) fun d => ?_).trans (extractStridedSlice_apply _ _ _ _ _ fun d => ?_)
  · match d with
    | ⟨0, _⟩ => rfl
    | ⟨1, _⟩ => rfl
    | ⟨2, _⟩ => rfl
    | ⟨3, _⟩ => rfl
  · match d with
    | ⟨0, _⟩ => exact (Nat.zero_add _).symm
    | ⟨1, _⟩ => exact (Nat.zero_add _).symm
    | ⟨2, _⟩ => exact (Nat.zero_add _).symm
    | ⟨3, _⟩ => exact Nat.add_comm k.val 1

/-- An array of one batch, repeated for every batch. -/
theorem spread_apply (z : Vec Ideal S1x3x512x512x14 .f32) (b : Fin 4) (a : Fin 3) (h w : Fin 512) (k : Fin 14) :
    broadcastInDim S4x3x512x512x14 ![0, 1, 2, 3, 4] bcast_S1x3x512x512x14_S4x3x512x512x14_0_1_2_3_4 z (ix5 b a h w k) = z (ix5 0 a h w k) :=
  broadcastInDim_apply _ _ _ _ (ix5 0 a h w k) fun d => match d with
    | ⟨0, _⟩ => rfl
    | ⟨1, _⟩ => rfl
    | ⟨2, _⟩ => rfl
    | ⟨3, _⟩ => rfl
    | ⟨4, _⟩ => rfl

/-- The queries beside every inner anchor of the same place. -/
theorem query_apply (q : Vec Ideal S4x3x512x512 .f32) (b : Fin 4) (a : Fin 3) (h w : Fin 512) (k : Fin 14) :
    broadcastInDim S4x3x512x512x14 ![0, 1, 2, 3, 4] bcast_S4x3x512x512x1_S4x3x512x512x14_0_1_2_3_4
      (broadcastInDim S4x3x512x512x1 ![0, 1, 2, 3] bcast_S4x3x512x512_S4x3x512x512x1_0_1_2_3 q) (ix5 b a h w k) = q (ix4 b a h w) := by
  refine (broadcastInDim_apply _ _ _ _ (ix5 b a h w 0) fun d => ?_).trans (broadcastInDim_apply _ _ _ _ _ fun d => ?_)
  · match d with
    | ⟨0, _⟩ => rfl
    | ⟨1, _⟩ => rfl
    | ⟨2, _⟩ => rfl
    | ⟨3, _⟩ => rfl
    | ⟨4, _⟩ => rfl
  · match d with
    | ⟨0, _⟩ => rfl
    | ⟨1, _⟩ => rfl
    | ⟨2, _⟩ => rfl
    | ⟨3, _⟩ => rfl

/-- The precondition gives the facts of `Good`. -/
theorem good (q : Vec Ideal S4x3x512x512 .f32) (v : Vec Ideal S512x512x3x3 .f32) (x y : Vec Ideal S3x512x512x16 .f32)
    (h : fn (F := Ideal) q v x y = fun _ => 1#1) : Good q x y := by
  obtain ⟨h1, h2, h3⟩ := parts q v x y h
  refine ⟨fun i => real_of_abs (h1 i).1, fun i => real_of_abs (h1 i).2, fun a r w k => ?_, fun b a r w k => ?_⟩
  · refine le_of_eq_of_le ?_ ((h2 (ix4 a r w k)).trans_eq ?_)
    · refine (extractStridedSlice_apply _ _ _ _ _ fun d => ?_).symm
      match d with
      | ⟨0, _⟩ => exact (Nat.zero_add _).symm
      | ⟨1, _⟩ => exact (Nat.zero_add _).symm
      | ⟨2, _⟩ => exact (Nat.zero_add _).symm
      | ⟨3, _⟩ => exact (Nat.zero_add _).symm
    · refine extractStridedSlice_apply _ _ _ _ _ fun d => ?_
      match d with
      | ⟨0, _⟩ => exact (Nat.zero_add _).symm
      | ⟨1, _⟩ => exact (Nat.zero_add _).symm
      | ⟨2, _⟩ => exact (Nat.zero_add _).symm
      | ⟨3, _⟩ => exact Nat.add_comm k.val 1
  · have h := h3 (ix5 b a r w k)
    rw [query_apply, spread_apply, spread_apply, inner_apply] at h
    exact h

end Cert.Pre_anchors_sorted_and_apart.Meaning

end
-- ==== Proof.Search.lean ====
/- The reference's search in the tables: it counts the anchors below a query, keeps the count between 1 and 15, and gathers the
   table entries at that count and at the one before. -/
module

public import proofs.«01_k».proof.Proof.Gen.ReferenceIdeal.Read
public import proofs.«01_k».proof.Proof.Pixel
public import Idealize.ShloMosaic.Lib.ValueIdx
public import Idealize.ShloMosaic.Lib.StableHlo.Predicate

@[expose] public section

noncomputable section

namespace Cert.ReferenceIdeal.Search

open Cert.ReferenceIdeal Cert.ReferenceIdeal.Gen Cert.ReferenceIdeal.Read Idealize.ShloMosaic Idealize.ShloMosaic.ValueIdx

/-! ## Counting -/

/-- The members of a downward closed set of the first `N` numbers are the ones below its size. -/
theorem mem_iff_lt_card {N : ℕ} (P : Fin N → Prop) [DecidablePred P] (h : ∀ i j, i ≤ j → P j → P i) (k : Fin N) :
    P k ↔ k.val < (Finset.univ.filter P).card := by
  constructor
  · intro hk
    have hs : Finset.Iic k ⊆ Finset.univ.filter P := fun i hi =>
      Finset.mem_filter.2 ⟨Finset.mem_univ _, h i k (Finset.mem_Iic.1 hi) hk⟩
    have hc := Finset.card_le_card hs
    rw [Fin.card_Iic] at hc
    omega
  · intro hlt
    by_contra hk
    have hs : Finset.univ.filter P ⊆ Finset.Iio k := fun i hi => by
      rw [Finset.mem_Iio]
      by_contra hle
      exact hk (h k i (not_lt.1 hle) (Finset.mem_filter.1 hi).2)
    have hc := Finset.card_le_card hs
    rw [Fin.card_Iio] at hc
    omega

variable (q : Vec Ideal S4x3x512x512 .f32) (x y : Vec Ideal S3x512x512x16 .f32)

/-- The anchors of row `p` below the query of batch `b`, counted. -/
def below (b : Fin 4) (p : Fin 786432) : ℕ :=
  (Finset.univ.filter fun k : Fin 16 => val_main_v0 (F := Ideal) x (ix2 p k) < val_main_v2 (F := Ideal) q (ix2 b p)).card

theorem below_le (b : Fin 4) (p : Fin 786432) : below q x b p ≤ 16 := (Finset.card_le_univ _).trans_eq (Fintype.card_fin 16)

/-- The segment's end that the reference works with: the count, kept between 1 and 15. -/
def stop (b : Fin 4) (p : Fin 786432) : ℕ := min 15 (max 1 (below q x b p))

theorem one_le_stop (b : Fin 4) (p : Fin 786432) : 1 ≤ stop q x b p := by unfold stop; omega
theorem stop_le (b : Fin 4) (p : Fin 786432) : stop q x b p ≤ 15 := by unfold stop; omega

/-- The bit that compares an anchor with a query. -/
theorem bit_apply (b : Fin 4) (p : Fin 786432) (k : Fin 16) :
    val_main_v7 (F := Ideal) q x (ix3 b p k)
      = BitVec.ofBool (decide (val_main_v0 (F := Ideal) x (ix2 p k) < val_main_v2 (F := Ideal) q (ix2 b p))) := by
  rw [val_main_v7_apply, val_main_v5_apply, val_main_v3_apply, val_main_v6_apply, val_main_v4_apply]
  have e1 : idx_main_v3 (idx_main_v5 (ix3 b p k)) = ix2 p k := funext fun a => match a with | ⟨0, _⟩ => rfl | ⟨1, _⟩ => rfl
  have e2 : idx_main_v4 (idx_main_v6 (ix3 b p k)) = ix2 b p := funext fun a => match a with | ⟨0, _⟩ => rfl | ⟨1, _⟩ => rfl
  rw [e1, e2]
  rfl

/-- The reference's count of anchors below a query. -/
theorem count_apply (b : Fin 4) (p : Fin 786432) : (val_main_v9 (F := Ideal) q x (ix2 b p)).toNat = below q x b p := by
  have hr : S4x786432x16.Reduces [2] S4x786432 := by decide
  have hl (k : Fin 16) : hr.lift (ix2 b p) k = ix3 b p k := funext fun a => Fin.ext (match a with | ⟨0, _⟩ => rfl | ⟨1, _⟩ => rfl | ⟨2, _⟩ => rfl)
  have hv (k : Fin 16) : (val_main_v8 (F := Ideal) q x (ix3 b p k)).toNat
      = if val_main_v0 (F := Ideal) x (ix2 p k) < val_main_v2 (F := Ideal) q (ix2 b p) then 1 else 0 := by
    rw [val_main_v8_apply, bit_apply, StableHlo.Predicate.toNat_setWidth_bit]
    by_cases h : val_main_v0 (F := Ideal) x (ix2 p k) < val_main_v2 (F := Ideal) q (ix2 b p) <;> simp [h]
  have hs : ∑ k : Fin 16, ((val_main_v8 (F := Ideal) q x ∘ hr.lift (ix2 b p)) k).toNat = below q x b p := by
    unfold below
    rw [Finset.card_filter]
    exact Finset.sum_congr rfl fun k _ =>
      (congrArg (fun z => (val_main_v8 (F := Ideal) q x z).toNat) (hl k)).trans (hv k)
  unfold val_main_v9
  rw [Host.reduce_eq_fold_single IntOp.addi _ _ reducesTo_S4x786432x16_S4x786432_d2 hr]
  refine (StableHlo.Predicate.toNat_fold_addi _ _ ?_).trans hs
  exact hs.trans_lt (by have := below_le q x b p; omega)

/-- The words of the clip of a small count. -/
theorem clip_word : ∀ n : Fin 17, IntOp.minsi 15#32 (IntOp.maxsi 1#32 (BitVec.ofNat 32 n.val)) = BitVec.ofNat 32 (min 15 (max 1 n.val)) := by
  decide

/-- The clipped count as a word. -/
theorem stop_word (b : Fin 4) (p : Fin 786432) : val_main_v10 (F := Ideal) q x (ix2 b p) = BitVec.ofNat 32 (stop q x b p) := by
  have hc : val_main_v9 (F := Ideal) q x (ix2 b p) = BitVec.ofNat 32 (below q x b p) := by
    rw [← count_apply q x b p, BitVec.ofNat_toNat, BitVec.setWidth_eq]
  rw [val_main_v10_apply, val_main_call0_v2_apply, hc]
  exact clip_word ⟨below q x b p, by have := below_le q x b p; omega⟩

/-- The words before the clipped counts. -/
theorem pred_word : ∀ n : Fin 16, 1 ≤ n.val → IntOp.subi (BitVec.ofNat 32 n.val) 1#32 = BitVec.ofNat 32 (n.val - 1) := by decide

/-- The word before the clipped count. -/
theorem start_word (b : Fin 4) (p : Fin 786432) : val_main_v14 (F := Ideal) q x (ix2 b p) = BitVec.ofNat 32 (stop q x b p - 1) := by
  rw [val_main_v14_apply, stop_word]
  exact pred_word ⟨stop q x b p, by have := stop_le q x b p; omega⟩ (one_le_stop q x b p)

/-! ## The tables of indices -/

/-- A word that is not negative is not moved by the treatment of negative indices. -/
theorem wrap_word (n : ℕ) (hn : n < 2 ^ 31) (a : BitVec 32) :
    Scalar.select (IntOp.cmpi .slt (BitVec.ofNat 32 n) 0#32) a (BitVec.ofNat 32 n) = BitVec.ofNat 32 n := by
  have h : IntOp.cmpi .slt (BitVec.ofNat 32 n) 0#32 ≠ 1 := by
    intro h
    have h' := IntOp.cmpi_slt.1 h
    rw [BitVec.toInt_eq_toNat_cond, BitVec.toNat_ofNat, Nat.mod_eq_of_lt (by omega), if_pos (by omega)] at h'
    simp at h'
    omega
  exact if_neg h

/-- The table of index pairs for given places within the rows: each result's row, and the place, with negative places moved. -/
def pairs (J : IVec S4x786432 32) : IVec S4x786432x2 32 :=
  concatenate S4x786432x2 2 [⟨S4x786432x1, val_main_v26 (F := Ideal)⟩,
    ⟨S4x786432x1, broadcastInDim S4x786432x1 ![0, 1] bcast_S4x786432_S4x786432x1_0_1
      (select (cmpi .slt J (val_main_v20 (F := Ideal))) (addi J (val_main_v22 (F := Ideal))) J)⟩]
    concatenates_S4x786432x1_S4x786432x1_S4x786432x2_d2

theorem pairs_v28 : val_main_v28 (F := Ideal) q x = pairs (val_main_v14 (F := Ideal) q x) := rfl
theorem pairs_v43 : val_main_v43 (F := Ideal) q x = pairs (val_main_v10 (F := Ideal) q x) := rfl
theorem pairs_v60 : val_main_v60 (F := Ideal) q x = pairs (val_main_v14 (F := Ideal) q x) := rfl
theorem pairs_v75 : val_main_v75 (F := Ideal) q x = pairs (val_main_v10 (F := Ideal) q x) := rfl

/-- The first of a pair is the row. -/
theorem pairs_row (J : IVec S4x786432 32) (b : Fin 4) (p : Fin 786432) : pairs J (ix3 b p 0) = BitVec.ofNat 32 p.val := by
  unfold pairs
  refine (concatenate_pair_apply_left (s₁ := S4x786432x1) (s₂ := S4x786432x1) (t := S4x786432x2) 2 _ _ _ (ix3 b p 0) rfl (ix3 b p 0) fun a => ?_).trans ?_
  · match a with
    | ⟨0, _⟩ => rfl
    | ⟨1, _⟩ => rfl
    | ⟨2, _⟩ => rfl
  · rw [val_main_v26_apply, val_main_v25_apply, val_main_v19_apply, val_main_v16_apply, val_main_v12_apply, val_main_v11_apply]
    exact wrap_word p.val (by omega) _

/-- The second of a pair is the place within the row. -/
theorem pairs_place (J : IVec S4x786432 32) (b : Fin 4) (p : Fin 786432) (n : ℕ) (hn : n < 2 ^ 31)
    (hJ : J (ix2 b p) = BitVec.ofNat 32 n) : pairs J (ix3 b p 1) = BitVec.ofNat 32 n := by
  unfold pairs
  refine (concatenate_pair_apply_right (s₁ := S4x786432x1) (s₂ := S4x786432x1) (t := S4x786432x2) 2 _ _ _ (ix3 b p 1) rfl rfl (ix3 b p 0) (fun a ha => ?_) rfl).trans
    ((broadcastInDim_apply _ _ _ _ (ix2 b p) fun a => ?_).trans ?_)
  · match a with
    | ⟨0, _⟩ => rfl
    | ⟨1, _⟩ => rfl
    | ⟨2, _⟩ => exact absurd rfl ha
  · match a with
    | ⟨0, _⟩ => rfl
    | ⟨1, _⟩ => rfl
  · show Scalar.select (IntOp.cmpi .slt (J (ix2 b p)) 0#32) _ (J (ix2 b p)) = _
    rw [hJ]
    exact wrap_word n hn _

/-! ## Gathering -/

/-- Read as a signed number and brought into range, a small word is its number. -/
theorem clamp_word (n k : ℕ) (hn : n < 2 ^ 31) (hk : n ≤ k) : min (BitVec.ofNat 32 n).toInt.toNat k = n := by
  rw [BitVec.toInt_eq_toNat_cond, BitVec.toNat_ofNat, Nat.mod_eq_of_lt (by omega), if_pos (by omega)]
  omega

/-- A table of rows gathered at a row and a place within it. -/
theorem gather_apply (T : Vec Ideal S786432x16 .f32) (I : IVec S4x786432x2 32) (b : Fin 4) (p : Fin 786432) (k : Fin 16)
    (hp : I (ix3 b p 0) = BitVec.ofNat 32 p.val) (hk : I (ix3 b p 1) = BitVec.ofNat 32 k.val) :
    Host.gather gather_S786432x16_S4x786432x2_S4x786432_n_01_n_n_01_2_11 T I (ix2 b p) = T (ix2 p k) := by
  unfold Host.gather
  congr 1
  funext a
  refine Fin.ext ?_
  show GatherDims.start _ (ix2 b p) I a + GatherDims.batchCoord _ (ix2 b p) a + GatherDims.offCoord _ (ix2 b p) a = _
  have hmem : a ∈ ([0, 1] : List (Fin 2)) := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  unfold GatherDims.start
  rw [dif_pos (show a ∈ gather_S786432x16_S4x786432x2_S4x786432_n_01_n_n_01_2_11.startIndexMap from hmem)]
  simp only [Nat.add_zero]
  have hsi (c : Fin 2) : GatherDims.siIdx gather_S786432x16_S4x786432x2_S4x786432_n_01_n_n_01_2_11 (ix2 b p) c = ix3 b p c := by
    funext z; refine Fin.ext ?_
    match z with
    | ⟨0, _⟩ => rfl
    | ⟨1, _⟩ => rfl
    | ⟨2, _⟩ => rfl
  match a with
  | ⟨0, _⟩ =>
    show min (I (GatherDims.siIdx gather_S786432x16_S4x786432x2_S4x786432_n_01_n_n_01_2_11 (ix2 b p) (0 : Fin 2))).toInt.toNat (786432 - 1) = p.val
    rw [hsi, hp]
    exact clamp_word _ _ (by omega) (by omega)
  | ⟨1, _⟩ =>
    show min (I (GatherDims.siIdx gather_S786432x16_S4x786432x2_S4x786432_n_01_n_n_01_2_11 (ix2 b p) (1 : Fin 2))).toInt.toNat (16 - 1) = k.val
    rw [hsi, hk]
    exact clamp_word _ _ (by omega) (by omega)

end Cert.ReferenceIdeal.Search

end
-- ==== Proof.Reference.lean ====
/- What the reference computes: at each pixel the interpolation inside the segment its search picks, mixed by the colour matrix
   and cut off at zero and one. On the good arguments this is the kernel's pixel. -/
module

public import proofs.«01_k».proof.Proof.Search
public import proofs.«01_k».proof.Proof.Assume
public import proofs.«01_k».proof.Proof.Kernel

@[expose] public section

noncomputable section

namespace Cert.ReferenceIdeal.Result

open Cert.ReferenceIdeal Cert.ReferenceIdeal.Gen Cert.ReferenceIdeal.Read Cert.ReferenceIdeal.Search Idealize.ShloMosaic Idealize.ShloMosaic.ValueIdx
open Cert.Pre_anchors_sorted_and_apart.Meaning (Good)

variable (q : Vec Ideal S4x3x512x512 .f32) (v : Vec Ideal S512x512x3x3 .f32) (x y : Vec Ideal S3x512x512x16 .f32)

/-- The row of a channel's pixel in the reference's tables. -/
def place (a : Fin 3) (h w : Fin 512) : Fin 786432 := ⟨(a.val * 512 + h.val) * 512 + w.val, by omega⟩

/-- A pixel's place among the pixels of one channel. -/
def spot (h w : Fin 512) : Fin 262144 := ⟨h.val * 512 + w.val, by omega⟩

/-- The reference's table of anchors. -/
theorem anchors_apply (a : Fin 3) (h w : Fin 512) (k : Fin 16) : val_main_v0 (F := Ideal) x (ix2 (place a h w) k) = x (ix4 a h w k) := by
  unfold val_main_v0
  refine shapeCast_apply x _ _ (ix4 a h w k) ?_
  rw [Shape.rowMajor_val_four, Shape.rowMajor_val_two]
  rfl

/-- The reference's table of responses. -/
theorem responses_apply (a : Fin 3) (h w : Fin 512) (k : Fin 16) : val_main_v1 (F := Ideal) y (ix2 (place a h w) k) = y (ix4 a h w k) := by
  unfold val_main_v1
  refine shapeCast_apply y _ _ (ix4 a h w k) ?_
  rw [Shape.rowMajor_val_four, Shape.rowMajor_val_two]
  rfl

/-- The reference's table of queries. -/
theorem queries_apply (b : Fin 4) (a : Fin 3) (h w : Fin 512) : val_main_v2 (F := Ideal) q (ix2 b (place a h w)) = q (ix4 b a h w) := by
  unfold val_main_v2
  refine shapeCast_apply q _ _ (ix4 b a h w) ?_
  rw [Shape.rowMajor_val_four, Shape.rowMajor_val_two]
  show ((b.val * 3 + a.val) * 512 + h.val) * 512 + w.val = b.val * 786432 + ((a.val * 512 + h.val) * 512 + w.val)
  omega

/-! ## The interpolation -/

/-- The four entries the reference gathers. -/
theorem left_anchor (b : Fin 4) (p : Fin 786432) :
    val_main_v29 (F := Ideal) q x (ix2 b p) = val_main_v0 (F := Ideal) x (ix2 p ⟨stop q x b p - 1, by have := stop_le q x b p; omega⟩) := by
  unfold val_main_v29
  rw [pairs_v28]
  exact gather_apply _ _ b p _ (pairs_row _ b p) (pairs_place _ b p _ (by have := stop_le q x b p; omega) (start_word q x b p))

theorem right_anchor (b : Fin 4) (p : Fin 786432) :
    val_main_v44 (F := Ideal) q x (ix2 b p) = val_main_v0 (F := Ideal) x (ix2 p ⟨stop q x b p, by have := stop_le q x b p; omega⟩) := by
  unfold val_main_v44
  rw [pairs_v43]
  exact gather_apply _ _ b p _ (pairs_row _ b p) (pairs_place _ b p _ (by have := stop_le q x b p; omega) (stop_word q x b p))

theorem left_response (b : Fin 4) (p : Fin 786432) :
    val_main_v61 (F := Ideal) q x y (ix2 b p) = val_main_v1 (F := Ideal) y (ix2 p ⟨stop q x b p - 1, by have := stop_le q x b p; omega⟩) := by
  unfold val_main_v61
  rw [pairs_v60]
  exact gather_apply _ _ b p _ (pairs_row _ b p) (pairs_place _ b p _ (by have := stop_le q x b p; omega) (start_word q x b p))

theorem right_response (b : Fin 4) (p : Fin 786432) :
    val_main_v76 (F := Ideal) q x y (ix2 b p) = val_main_v1 (F := Ideal) y (ix2 p ⟨stop q x b p, by have := stop_le q x b p; omega⟩) := by
  unfold val_main_v76
  rw [pairs_v75]
  exact gather_apply _ _ b p _ (pairs_row _ b p) (pairs_place _ b p _ (by have := stop_le q x b p; omega) (stop_word q x b p))

/-- The reference's response: the interpolation inside the segment that starts one before the clipped count. -/
theorem response_apply (b : Fin 4) (a : Fin 3) (h w : Fin 512) :
    val_main_v84 (F := Ideal) q x y (ix2 b (place a h w))
      = Interp.inside Interp.eps (fun k => x (ix4 a h w (Fin.ofNat 16 k))) (fun k => y (ix4 a h w (Fin.ofNat 16 k))) (q (ix4 b a h w))
          (stop q x b (place a h w) - 1) := by
  have h1 := one_le_stop q x b (place a h w)
  have h2 := stop_le q x b (place a h w)
  have e0 : (⟨stop q x b (place a h w) - 1, by omega⟩ : Fin 16) = Fin.ofNat 16 (stop q x b (place a h w) - 1) :=
    Fin.ext (Nat.mod_eq_of_lt (by omega)).symm
  have e1 : (⟨stop q x b (place a h w), by omega⟩ : Fin 16) = Fin.ofNat 16 (stop q x b (place a h w) - 1 + 1) :=
    Fin.ext ((by omega : stop q x b (place a h w) = stop q x b (place a h w) - 1 + 1).trans (Nat.mod_eq_of_lt (by omega)).symm)
  rw [val_main_v84_apply, val_main_v83_apply, val_main_v82_apply, val_main_v81_apply, val_main_v80_apply, val_main_v79_apply,
    val_main_v78_apply, val_main_v77_apply, val_main_cst_apply, left_anchor, right_anchor, left_response, right_response,
    queries_apply, anchors_apply, anchors_apply, responses_apply, responses_apply, e0, e1,
    show (FloatOps.ofBits .f32 0x322BCC77#32 : Ideal .f32) = (Interp.eps : EReal) from Interp.word_eps]
  rfl

variable {q x y}

/-- On good arguments the reference's response is the sum of segments the kernel computes. -/
theorem response_eq (hg : Good q x y) (b : Fin 4) (a : Fin 3) (h w : Fin 512) :
    val_main_v84 (F := Ideal) q x y (ix2 b (place a h w))
      = Interp.segments Interp.eps (fun k => x (ix4 a h w (Fin.ofNat 16 k))) (fun k => y (ix4 a h w (Fin.ofNat 16 k))) (q (ix4 b a h w)) := by
  rw [response_apply]
  choose X hX using hg.anchor
  choose Y hY using hg.response
  have ex : (fun k : ℕ => x (ix4 a h w (Fin.ofNat 16 k))) = Interp.up fun k => X (ix4 a h w (Fin.ofNat 16 k)) := funext fun k => hX _
  have ey : (fun k : ℕ => y (ix4 a h w (Fin.ofNat 16 k))) = Interp.up fun k => Y (ix4 a h w (Fin.ofNat 16 k)) := funext fun k => hY _
  have hn : stop q x b (place a h w) = min 15 (max 1 (below q x b (place a h w))) := rfl
  -- the anchors of the row increase
  have mono : Monotone fun k : Fin 16 => x (ix4 a h w k) := Fin.monotone_iff_le_succ.2 fun k => hg.sorted a h w k
  -- an anchor lies below the query exactly when its place is below the count
  have key (k : ℕ) (hk : k < 16) : x (ix4 a h w (Fin.ofNat 16 k)) < q (ix4 b a h w) ↔ k < below q x b (place a h w) := by
    have h0 := mem_iff_lt_card (fun j : Fin 16 => val_main_v0 (F := Ideal) x (ix2 (place a h w) j) < val_main_v2 (F := Ideal) q (ix2 b (place a h w)))
      (fun i j hij hj => by
        rw [anchors_apply, queries_apply] at hj ⊢
        exact (mono hij).trans_lt hj) (Fin.ofNat 16 k)
    rw [show (Fin.ofNat 16 k).val = k from Nat.mod_eq_of_lt hk] at h0
    rw [← anchors_apply x, ← queries_apply q]
    exact h0
  rw [ex, ey]
  refine (Interp.segments_eq Interp.eps_pos (fun k hk => ?_) _ (by omega) (fun k h1 hk => ?_) (fun k hk h14 => ?_)).symm
  · have hs := mono (show (Fin.ofNat 16 k) ≤ Fin.ofNat 16 (k + 1) by
      rw [Fin.le_def]
      show k % 16 ≤ (k + 1) % 16
      omega)
    simp only [hX] at hs
    exact EReal.coe_le_coe_iff.1 hs
  · have hlt := (key k (by omega)).2 (by omega)
    have e : Fin.ofNat 16 k = (⟨k - 1, by omega⟩ : Fin 14).succ.castSucc := Fin.ext (by
      show k % 16 = k - 1 + 1
      omega)
    have hap := (hg.apart b a h w ⟨k - 1, by omega⟩).resolve_left (by rw [← e]; exact not_le.2 hlt)
    rw [← e, hX] at hap
    rw [hX] at hlt
    exact ⟨hlt, by rw [EReal.coe_add]; exact hap⟩
  · have hle := not_lt.1 fun hlt => absurd ((key k (by omega)).1 hlt) (by omega)
    rwa [hX] at hle

/-! ## The mix of colours -/

/-- The reference's responses as the matrix product's second factor. -/
theorem factor_apply (b : Fin 4) (a : Fin 3) (h w : Fin 512) :
    val_main_v86 (F := Ideal) q x y (ix3 b (spot h w) a) = val_main_v84 (F := Ideal) q x y (ix2 b (place a h w)) := by
  rw [val_main_v86_apply, val_main_v85_apply]
  congr 1
  funext c
  refine Fin.ext ?_
  match c with
  | ⟨0, _⟩ =>
    show ((b.val * 3 + a.val) * 262144 + (h.val * 512 + w.val)) / 786432 = b.val
    omega
  | ⟨1, _⟩ =>
    show ((b.val * 3 + a.val) * 262144 + (h.val * 512 + w.val)) % 786432 = (a.val * 512 + h.val) * 512 + w.val
    omega

/-- The colour matrices as the product's first factor. -/
theorem colour_apply (h w : Fin 512) (a d : Fin 3) : val_main_v87 (F := Ideal) v (ix3 (spot h w) a d) = v (ix4 h w a d) := by
  unfold val_main_v87
  refine shapeCast_apply v _ _ (ix4 h w a d) ?_
  rw [Shape.rowMajor_val_four, Shape.rowMajor_val_three]
  rfl

/-- The reference's mixed colour before the cut. -/
theorem mixed_apply (b : Fin 4) (d : Fin 3) (h w : Fin 512) :
    val_main_v91 (F := Ideal) q v x y (ix4 b d h w)
      = ∑ a : Fin 3, v (ix4 h w a d) * val_main_v84 (F := Ideal) q x y (ix2 b (place a h w)) := by
  have e : idx_main_v90 (idx_main_v91 (ix4 b d h w)) = ix3 b (spot h w) d := funext fun c => Fin.ext (match c with
    | ⟨0, _⟩ => by
      show (((b.val * 512 + h.val) * 512 + w.val) * 3 + d.val) / 786432 = b.val
      omega
    | ⟨1, _⟩ => by
      show (((b.val * 512 + h.val) * 512 + w.val) * 3 + d.val) / 3 % 262144 = h.val * 512 + w.val
      omega
    | ⟨2, _⟩ => by
      show (((b.val * 512 + h.val) * 512 + w.val) * 3 + d.val) % 3 = d.val
      omega)
  rw [val_main_v91_apply, val_main_v90_apply, e, val_main_v89_apply, val_main_v88_apply]
  refine Finset.sum_congr rfl fun a _ => ?_
  have el : lidx_main_v88 (idx_main_v89 (ix3 b (spot h w) d)) a = ix3 (spot h w) a d :=
    funext fun c => match c with | ⟨0, _⟩ => rfl | ⟨1, _⟩ => rfl | ⟨2, _⟩ => rfl
  have er : ridx_main_v88 (idx_main_v89 (ix3 b (spot h w) d)) a = ix3 b (spot h w) a :=
    funext fun c => match c with | ⟨0, _⟩ => rfl | ⟨1, _⟩ => rfl | ⟨2, _⟩ => rfl
  rw [el, er, colour_apply, factor_apply]

/-- On good arguments the reference's result is the kernel's pixel. -/
theorem result_apply (hg : Good q x y) (b : Fin 4) (d : Fin 3) (h w : Fin 512) :
    val_main_v92 (F := Ideal) q v x y (ix4 b d h w) = Cert.KernelIdeal.Result.pixel q v x y b d h w := by
  rw [val_main_v92_apply, val_main_call1_v4_apply, val_main_call1_v3_apply, val_main_cst_21_apply, val_main_call1_v2_apply,
    val_main_call1_v1_apply, val_main_call1_v0_apply, val_main_cst_20_apply, mixed_apply, Fin.sum_univ_three,
    response_eq hg, response_eq hg, response_eq hg,
    show (FloatOps.ofBits .f32 0x00000000#32 : Ideal .f32) = (0 : EReal) from Interp.word_zero,
    show (FloatOps.ofBits .f32 0x3F800000#32 : Ideal .f32) = (1 : EReal) from Interp.word_one,
    mul_comm (v (ix4 h w 0 d)), mul_comm (v (ix4 h w 1 d)), mul_comm (v (ix4 h w 2 d))]
  rfl

end Cert.ReferenceIdeal.Result

end
-- ==== Proof.lean ====
/- The proof of the claims about the kernel that interpolates each pixel's colour between anchors and mixes the channels: every
   run of the kernel and of the reference ends with the arguments and the counters as they were, the idealized kernel keeps the
   kernel's operations, and on anchors that are in order and apart from the queries the kernel and the reference give equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_anchors_sorted_and_apart
public import proofs.«01_k».proof.Proof.Kernel
public import proofs.«01_k».proof.Proof.Assume
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- Every run of the reference leaves the arguments as they were and every counter at zero. -/
theorem reference_frame : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- On anchors that are in order and apart from the queries, the kernel and the reference end with equal results. -/
theorem equal_results : algebraic_KernelIdeal_ReferenceIdeal_pre_anchors_sorted_and_apart (hKernelIdeal := Cert.KernelIdeal.Gen.facts)
    (hReferenceIdeal := Cert.ReferenceIdeal.Gen.facts) (hPre_anchors_sorted_and_apart := Cert.Pre_anchors_sorted_and_apart.Gen.facts) := by
  intro m ρ m' ρ' hpre hargs
  refine ⟨Cert.KernelIdeal.Result.result m, Cert.KernelIdeal.Result.run m ρ,
    (θ_run _ _ _).mono (fun r h c => ⟨(h c).1.trans ?_, (h c).2⟩) (Cert.ReferenceIdeal.Value.run m' ρ')⟩
  have hg := Cert.Pre_anchors_sorted_and_apart.Meaning.good _ _ _ _ (hpre c)
  obtain ⟨h0, h1, h2, h3⟩ := hargs c
  rw [Cert.ReferenceIdeal.Read.val_main_v92_eq, h0, h1, h2, h3]
  funext i
  obtain ⟨b, d, y, x, rfl⟩ : ∃ (b : Fin 4) (d : Fin 3) (y x : Fin 512), i = ix4 b d y x := ⟨i 0, i 1, i 2, i 3, eq_ix4 i⟩
  exact Cert.ReferenceIdeal.Result.result_apply _ hg b d y x

theorem claim : Cert.Claim :=
  ⟨Cert.Kernel.Gen.facts, Cert.KernelIdeal.Gen.facts, Cert.ReferenceIdeal.Gen.facts, Cert.Pre_anchors_sorted_and_apart.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, equal_results⟩

end Cert.Proof

end
